-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sixteenth_apart [hPre_sixteenth_apart : Cert.Pre_sixteenth_apart.Facts] (m : (ℓ : Loc Cert.KernelIdeal.nD Cert.KernelIdeal.τ Cert.KernelIdeal.sig) → Buf (Elt Ideal) ℓ) : Prop :=
  ∀ c : Dev Cert.KernelIdeal.nD,
    (Cert.Pre_sixteenth_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sixteenth_apart [hPre_sixteenth_apart : Cert.Pre_sixteenth_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sixteenth_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sixteenth_apart [hKernelIdeal : Cert.KernelIdeal.Facts] [hPre_sixteenth_apart : Cert.Pre_sixteenth_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sixteenth_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sixteenth_apart [hReferenceIdeal : Cert.ReferenceIdeal.Facts] [hPre_sixteenth_apart : Cert.Pre_sixteenth_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sixteenth_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sixteenth_apart [hKernelIdeal : Cert.KernelIdeal.Facts] [hReferenceIdeal : Cert.ReferenceIdeal.Facts] [hPre_sixteenth_apart : Cert.Pre_sixteenth_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sixteenth_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sixteenth_apart : Cert.Pre_sixteenth_apart.Facts),
    quiescent_Kernel (hKernel := hKernel)
    ∧ quiescent_KernelIdeal (hKernelIdeal := hKernelIdeal)
    ∧ quiescent_KernelIdeal_pre_sixteenth_apart (hKernelIdeal := hKernelIdeal) (hPre_sixteenth_apart := hPre_sixteenth_apart)
    ∧ quiescent_ReferenceIdeal (hReferenceIdeal := hReferenceIdeal)
    ∧ quiescent_ReferenceIdeal_pre_sixteenth_apart (hReferenceIdeal := hReferenceIdeal) (hPre_sixteenth_apart := hPre_sixteenth_apart)
    ∧ preserves_Kernel_KernelIdeal
    ∧ algebraic_KernelIdeal_ReferenceIdeal_pre_sixteenth_apart (hKernelIdeal := hKernelIdeal) (hReferenceIdeal := hReferenceIdeal) (hPre_sixteenth_apart := hPre_sixteenth_apart)
-- ==== Pre_sixteenth_apart.lean ====
abbrev S4x256x4096 : Shape := ⟨3, ![4, 256, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x256 : Shape := ⟨3, ![4, 4096, 256]⟩
abbrev S4x4096x17 : Shape := ⟨3, ![4, 4096, 17]⟩

class Facts : Prop where
  reducesTo_S4x256x4096_S4x4096_d1 : S4x256x4096.ReducesTo [1] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  transposes_S4x256x4096_S4x4096x256_0_2_1 : S4x256x4096.Transposes [0, 2, 1] S4x4096x256
  bcast_S_S4x4096x4096 : S_.BroadcastsInDim S4x4096x4096 (![] : Fin 0 → Fin S4x4096x4096.rank)
  transposes_S4x4096x4096_S4x4096x4096_0_2_1 : S4x4096x4096.Transposes [0, 2, 1] S4x4096x4096
  sliceFits_S4x4096x4096_S4x4096x17 : S4x4096x4096.Slices (fun _ => 0) S4x4096x17
  slices_S4x4096x17_S4x4096x1_0_0_15 : S4x4096x17.Slices ![0, 0, 15] S4x4096x1
  shapeCasts_S4x4096x1_S4x4096 : S4x4096x1.ShapeCasts S4x4096
  slices_S4x4096x17_S4x4096x1_0_0_16 : S4x4096x17.Slices ![0, 0, 16] S4x4096x1
  dot_S4x4096x256_S4x256x4096_S4x4096x4096_2_1_1_2_0_0_wf : DotDims.WF S4x4096x256 S4x256x4096 S4x4096x4096 [2] [1] [1] [2] [0] [0]

variable [Facts]

def dot_S4x4096x256_S4x256x4096_S4x4096x4096_2_1_1_2_0_0 : DotDims S4x4096x256 S4x256x4096 S4x4096x4096 where
  lhsContracting := [2]
  rhsContracting := [1]
  lhsNonContracting := [1]
  rhsNonContracting := [2]
  lhsBatch := [0]
  rhsBatch := [0]
  wf := dot_S4x4096x256_S4x256x4096_S4x4096x4096_2_1_1_2_0_0_wf
def fn_part1 {F : FTy → Type} [FloatOps F] (main_v17 : FVec F S4x4096 .f32) (main_v18 : FVec F S4x4096x1 .f32) : IVec S4x4096 1 :=
  let main_v19 : FVec F S4x4096 .f32 := shapeCast S4x4096 main_v18 shapeCasts_S4x4096x1_S4x4096
  let main_v20 : IVec S4x4096 1 := cmpf .ogt main_v17 main_v19
  main_v20

def fn {F : FTy → Type} [FloatOps F] (main_arg0 : FVec F S4x256x4096 .f32) (main_arg1 : FVec F S4x256x4096 .f32) : IVec S4x4096 1 :=
  let main_v0 : FVec F S4x256x4096 .f32 := mulf main_arg0 main_arg0
  let main_cst : FVec F S_ .f32 := constant S_ .f32 0x00000000#32
  let main_v1 : FVec F S4x4096 .f32 := (fun x v => Host.reduceAdd x v reducesTo_S4x256x4096_S4x4096_d1 h_S_) main_v0 main_cst
  let main_v2 : FVec F S4x256x4096 .f32 := mulf main_arg1 main_arg1
  let main_cst_0 : FVec F S_ .f32 := constant S_ .f32 0x00000000#32
  let main_v3 : FVec F S4x4096 .f32 := (fun x v => Host.reduceAdd x v reducesTo_S4x256x4096_S4x4096_d1 h_S_) main_v2 main_cst_0
  let main_v4 : FVec F S4x4096x1 .f32 := broadcastInDim S4x4096x1 ![0, 1] bcast_S4x4096_S4x4096x1_0_1 main_v1
  let main_v5 : FVec F S4x1x4096 .f32 := broadcastInDim S4x1x4096 ![0, 2] bcast_S4x4096_S4x1x4096_0_2 main_v3
  let main_v6 : FVec F S4x4096x4096 .f32 := broadcastInDim S4x4096x4096 ![0, 1, 2] bcast_S4x4096x1_S4x4096x4096_0_1_2 main_v4
  let main_v7 : FVec F S4x4096x4096 .f32 := broadcastInDim S4x4096x4096 ![0, 1, 2] bcast_S4x1x4096_S4x4096x4096_0_1_2 main_v5
  let main_v8 : FVec F S4x4096x4096 .f32 := addf main_v6 main_v7
  let main_v9 : FVec F S4x4096x256 .f32 := (transpose S4x4096x256 [0, 2, 1] · transposes_S4x256x4096_S4x4096x256_0_2_1) main_arg0
  let main_v10 : FVec F S4x4096x4096 .f32 := (fun l r => Host.dotGeneral dot_S4x4096x256_S4x256x4096_S4x4096x4096_2_1_1_2_0_0 none l r) main_v9 main_arg1
  let main_cst_1 : FVec F S_ .f32 := constant S_ .f32 0x40000000#32
  let main_v11 : FVec F S4x4096x4096 .f32 := broadcastInDim S4x4096x4096 ![] bcast_S_S4x4096x4096 main_cst_1
  let main_v12 : FVec F S4x4096x4096 .f32 := mulf main_v11 main_v10
  let main_v13 : FVec F S4x4096x4096 .f32 := subf main_v8 main_v12
  let main_v14 : FVec F S4x4096x4096 .f32 := (transpose S4x4096x4096 [0, 2, 1] · transposes_S4x4096x4096_S4x4096x4096_0_2_1) main_v13
  let main_v15 : FVec F S4x4096x4096 .f32 := Host.negf main_v14
  let main_values : FVec F S4x4096x17 .f32 := (fun x => (Host.topK S4x4096x17 2 (FloatOps.cmpfTotal .gt) x sliceFits_S4x4096x4096_S4x4096x17).1) main_v15
  let main_indices : IVec S4x4096x17 32 := (fun x => (Host.topK S4x4096x17 2 (FloatOps.cmpfTotal .gt) x sliceFits_S4x4096x4096_S4x4096x17).2) main_v15
  let main_v16 : FVec F S4x4096x1 .f32 := (extractStridedSlice S4x4096x1 ![0, 0, 15] · slices_S4x4096x17_S4x4096x1_0_0_15) main_values
  let main_v17 : FVec F S4x4096 .f32 := shapeCast S4x4096 main_v16 shapeCasts_S4x4096x1_S4x4096
  let main_v18 : FVec F S4x4096x1 .f32 := (extractStridedSlice S4x4096x1 ![0, 0, 16] · slices_S4x4096x17_S4x4096x1_0_0_16) main_values
  fn_part1 (F := F) main_v17 main_v18
-- ==== Kernel.lean ====
abbrev S4x256x4096 : Shape := ⟨3, ![4, 256, 4096]⟩
abbrev S4x16x4096 : Shape := ⟨3, ![4, 16, 4096]⟩
abbrev S1x256x4096 : Shape := ⟨3, ![1, 256, 4096]⟩
abbrev S1x256x512 : Shape := ⟨3, ![1, 256, 512]⟩
abbrev S1x16x512 : Shape := ⟨3, ![1, 16, 512]⟩
abbrev S256x4096 : Shape := ⟨2, ![256, 4096]⟩
abbrev S256x512 : Shape := ⟨2, ![256, 512]⟩
abbrev S4096 : Shape := ⟨1, ![4096]⟩
abbrev S1x4096 : Shape := ⟨2, ![1, 4096]⟩
abbrev S512x4096 : Shape := ⟨2, ![512, 4096]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x1x512 : Shape := ⟨3, ![1, 1, 512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x256x4096, .f32⟩
  | .hbm, ⟨1, _⟩ => ⟨S4x256x4096, .f32⟩
  | .hbm, ⟨2, _⟩ => ⟨S4x16x4096, .i32⟩
  | .local _ .vmem, ⟨0, _⟩ => ⟨S1x256x4096, .f32⟩
  | .local _ .vmem, ⟨1, _⟩ => ⟨S1x256x4096, .f32⟩
  | .local _ .vmem, ⟨2, _⟩ => ⟨S1x256x512, .f32⟩
  | .local _ .vmem, ⟨3, _⟩ => ⟨S1x256x512, .f32⟩
  | .local _ .vmem, ⟨4, _⟩ => ⟨S1x16x512, .i32⟩
  | .local _ .vmem, ⟨5, _⟩ => ⟨S1x16x512, .i32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x256x4096 : Shape := ⟨3, ![4, 256, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x256 : Shape := ⟨3, ![4, 4096, 256]⟩
abbrev S4x4096x16 : Shape := ⟨3, ![4, 4096, 16]⟩
abbrev S4x16x4096 : Shape := ⟨3, ![4, 16, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4x256x4096, .f32⟩
  | .hbm, ⟨2, _⟩ => ⟨S4x256x4096, .f32⟩
  | .hbm, ⟨3, _⟩ => ⟨S_, .f32⟩
  | .hbm, ⟨4, _⟩ => ⟨S4x4096, .f32⟩
  | .hbm, ⟨5, _⟩ => ⟨S4x256x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x256, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x16, .f32⟩
  | .hbm, ⟨22, _⟩ => ⟨S4x4096x16, .i32⟩
  | .hbm, ⟨23, _⟩ => ⟨S4x16x4096, .i32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_values : Ref sig .tc := ⟨.hbm, 21, rfl⟩
abbrev main_indices : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.WalkIdeal.lean ====
module

public import proofs.«01_k».proof.Proof.Gen.KernelIdeal.Frame
public import proofs.«01_k».proof.Proof.Gen.KernelIdeal.Skeleton
public import Idealize.ShloMosaic.Lib.Claim
public import Idealize.ShloMosaic.Lib.PointwiseCore
public import Mathlib.Tactic.IntervalCases

@[expose] public section

set_option maxRecDepth 16384

noncomputable section

namespace Cert.Proof.KnnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves, in terms of the score matrix -/

/-- The column numbers of the whole block, as floats. -/
def colF : FVec F S512x4096 .f32 := sitofp .f32 (iota .tc S512x4096 32 [1] iota_S512x4096_d1_w32)

/-- One extraction over `S512x4096`: the row minima, -/
def mF (rv : FVec F S512x4096 .f32) : FVec F S512x1 .f32 :=
  shapeCast S512x1 (multiReduction .minimumf [1] S512 rv 0x7F800000#32 reduces_S512x4096_S512 (.inl rfl) rfl) shapeCasts_S512_S512x1
/-- the columns at which they are attained (4096 elsewhere), -/
def ccF (col rv : FVec F S512x4096 .f32) : FVec F S512x4096 .f32 :=
  select (cmpf .oeq rv (broadcastTo S512x4096 (mF rv) broadcasts_S512x1_S512x4096)) col (broadcast S512x4096 (Scalar.ofBits .f32 0x45800000#32 : F .f32))
/-- the smallest of these, -/
def cF (col rv : FVec F S512x4096 .f32) : FVec F S512x1 .f32 :=
  shapeCast S512x1 (multiReduction .minimumf [1] S512 (ccF col rv) 0x7F800000#32 reduces_S512x4096_S512 (.inl rfl) rfl) shapeCasts_S512_S512x1
/-- the output row, -/
def rowF (col rv : FVec F S512x4096 .f32) : IVec S1x1x512 32 :=
  shapeCast S1x1x512 (transpose S1x512 [1, 0] (fptosi 32 (cF col rv)) transposes_S512x1_p1_0_S1x512) shapeCasts_S1x512_S1x1x512
/-- and the values with the extracted column struck out. -/
def nxF (col rv : FVec F S512x4096 .f32) : FVec F S512x4096 .f32 :=
  select (cmpf .oeq (ccF col rv) (broadcastTo S512x4096 (cF col rv) broadcasts_S512x1_S512x4096)) (broadcast S512x4096 (Scalar.ofBits .f32 0x7F800000#32 : F .f32)) rv
/-- The values before extraction `k`. -/
def itF (col rv : FVec F S512x4096 .f32) (k : ℕ) : FVec F S512x4096 .f32 := (nxF col)^[k] rv

/-- The same over the 512 candidates of a row. -/
def mC (rv : FVec F S512x512 .f32) : FVec F S512x1 .f32 :=
  shapeCast S512x1 (multiReduction .minimumf [1] S512 rv 0x7F800000#32 reduces_S512x512_S512 (.inl rfl) rfl) shapeCasts_S512_S512x1
/-- The columns at which the minima are attained (4096 elsewhere). -/
def ccC (col rv : FVec F S512x512 .f32) : FVec F S512x512 .f32 :=
  select (cmpf .oeq rv (broadcastTo S512x512 (mC rv) broadcasts_S512x1_S512x512)) col (broadcast S512x512 (Scalar.ofBits .f32 0x45800000#32 : F .f32))
/-- The smallest of these. -/
def cC (col rv : FVec F S512x512 .f32) : FVec F S512x1 .f32 :=
  shapeCast S512x1 (multiReduction .minimumf [1] S512 (ccC col rv) 0x7F800000#32 reduces_S512x512_S512 (.inl rfl) rfl) shapeCasts_S512_S512x1
/-- The output row. -/
def rowC (col rv : FVec F S512x512 .f32) : IVec S1x1x512 32 :=
  shapeCast S1x1x512 (transpose S1x512 [1, 0] (fptosi 32 (cC col rv)) transposes_S512x1_p1_0_S1x512) shapeCasts_S1x512_S1x1x512
/-- The values with the extracted column struck out. -/
def nxC (col rv : FVec F S512x512 .f32) : FVec F S512x512 .f32 :=
  select (cmpf .oeq (ccC col rv) (broadcastTo S512x512 (cC col rv) broadcasts_S512x1_S512x512)) (broadcast S512x512 (Scalar.ofBits .f32 0x7F800000#32 : F .f32)) rv
/-- The values before extraction `k`. -/
def itC (col rv : FVec F S512x512 .f32) (k : ℕ) : FVec F S512x512 .f32 := (nxC col)^[k] rv

theorem itF_succ (col rv : FVec F S512x4096 .f32) (k : ℕ) : itF col rv (k + 1) = nxF col (itF col rv k) :=
  Function.iterate_succ_apply' _ _ _
theorem itC_succ (col rv : FVec F S512x512 .f32) (k : ℕ) : itC col rv (k + 1) = nxC col (itC col rv k) :=
  Function.iterate_succ_apply' _ _ _

/-- The bits of `128 t` as a float. -/
def kbits : Fin 32 → BitVec 32 := ![0x00000000#32, 0x43000000#32, 0x43800000#32, 0x43C00000#32, 0x44000000#32, 0x44200000#32, 0x44400000#32, 0x44600000#32, 0x44800000#32, 0x44900000#32, 0x44A00000#32, 0x44B00000#32, 0x44C00000#32, 0x44D00000#32, 0x44E00000#32, 0x44F00000#32, 0x45000000#32, 0x45080000#32, 0x45100000#32, 0x45180000#32, 0x45200000#32, 0x45280000#32, 0x45300000#32, 0x45380000#32, 0x45400000#32, 0x45480000#32, 0x45500000#32, 0x45580000#32, 0x45600000#32, 0x45680000#32, 0x45700000#32, 0x45780000#32]

/-- A pair of a value tile and a column tile is a candidate pair: at every position both come from the same tile of the
    scores. -/
def Cand (sc : FVec F S512x4096 .f32) (v c : FVec F S512x128 .f32) : Prop :=
  ∀ y, ∃ t : Fin 32, ∃ h : S512x4096.Slices ![0, 128 * t.val] S512x128,
    v y = extractStridedSlice S512x128 ![0, 128 * t.val] sc h y
    ∧ c y = addf (sitofp .f32 (iota .tc S512x128 32 [1] iota_S512x128_d1_w32)) (broadcast S512x128 (Scalar.ofBits .f32 (kbits t) : F .f32)) y

/-- Choosing values and columns by one mask keeps candidate pairs. -/
theorem Cand.sel {sc : FVec F S512x4096 .f32} {v c v' c' : FVec F S512x128 .f32} (M : IVec S512x128 1)
    (h : Cand sc v c) (h' : Cand sc v' c') : Cand sc (select M v v') (select M c c') := fun y => by
  by_cases hM : M y = 1
  · obtain ⟨t, w, h1, h2⟩ := h y
    exact ⟨t, w, by simp only [select, Scalar.select, hM, if_true, h1], by simp only [select, Scalar.select, hM, if_true, h2]⟩
  · obtain ⟨t, w, h1, h2⟩ := h' y
    exact ⟨t, w, by simp only [select, Scalar.select, hM, if_false, h1], by simp only [select, Scalar.select, hM, if_false, h2]⟩

/-- The 512 candidates of a row: four candidate pairs side by side. -/
def Cands (sc : FVec F S512x4096 .f32) (red col : FVec F S512x512 .f32) : Prop :=
  ∃ v0 c0 v1 c1 v2 c2 v3 c3 : FVec F S512x128 .f32, Cand sc v0 c0 ∧ Cand sc v1 c1 ∧ Cand sc v2 c2 ∧ Cand sc v3 c3
    ∧ red = concatenate S512x512 1 [⟨S512x128, v0⟩, ⟨S512x128, v1⟩, ⟨S512x128, v2⟩, ⟨S512x128, v3⟩] concatenates_S512x128_S512x128_S512x128_S512x128_S512x512_d1
    ∧ col = concatenate S512x512 1 [⟨S512x128, c0⟩, ⟨S512x128, c1⟩, ⟨S512x128, c2⟩, ⟨S512x128, c3⟩] concatenates_S512x128_S512x128_S512x128_S512x128_S512x512_d1

/-- The number of the sixteen minima below the last, as the body counts it. -/
def nlt (mm : ℕ → FVec F S512x1 .f32) : FVec F S512x1 .f32 :=
  k0_pay588 (mm 1) (mm 2) (mm 3) (mm 4) (mm 5) (mm 6) (mm 7) (mm 8) (mm 9) (mm 10) (mm 11) (mm 12) (mm 13) (mm 14) (mm 15)
    (addf (broadcast S512x1 (Scalar.ofBits .f32 0x00000000#32 : F .f32)) (sitofp .f32 (extui 32 (cmpf .olt (mm 0) (mm 15)) natLt_1_32)))

/-- The body's test: some row's candidates may have lost a neighbour. -/
def Bad (sc : FVec F S512x4096 .f32) (red col : FVec F S512x512 .f32) : Prop :=
  Scalar.cmpi .ne (Scalar.extui (Scalar.cmpf .ogt (k0_pay1 sc (mC (itC col red 15)) (nlt fun k => mC (itC col red k))) (Scalar.ofBits .f32 0x00000000#32 : F .f32)) : BitVec 32) 0#32 = 1#1

abbrev SP (F : FTy → Type) [FloatOps F] := View.Piece (Elt F) S1x16x512 .i32

/-- A store of row `k`. -/
def pc (k : ℕ) (h : ∀ a, (![0, k, 0] : Fin 3 → Nat) a + S1x1x512.size a ≤ S1x16x512.size a) (w : IVec S1x1x512 32) : SP F :=
  ⟨Rect.unit (s := S1x16x512) ![0, k, 0] S1x1x512.size h, w⟩

/-- The sixteen stores of a run of extractions, the last first. -/
def pcs (r : ℕ → IVec S1x1x512 32) (L : List (SP F)) : List (SP F) :=
  pc 15 inb_S1x16x512_S1x1x512_0_15_0 (r 15) ::
    pc 14 inb_S1x16x512_S1x1x512_0_14_0 (r 14) ::
    pc 13 inb_S1x16x512_S1x1x512_0_13_0 (r 13) ::
    pc 12 inb_S1x16x512_S1x1x512_0_12_0 (r 12) ::
    pc 11 inb_S1x16x512_S1x1x512_0_11_0 (r 11) ::
    pc 10 inb_S1x16x512_S1x1x512_0_10_0 (r 10) ::
    pc 9 inb_S1x16x512_S1x1x512_0_9_0 (r 9) ::
    pc 8 inb_S1x16x512_S1x1x512_0_8_0 (r 8) ::
    pc 7 inb_S1x16x512_S1x1x512_0_7_0 (r 7) ::
    pc 6 inb_S1x16x512_S1x1x512_0_6_0 (r 6) ::
    pc 5 inb_S1x16x512_S1x1x512_0_5_0 (r 5) ::
    pc 4 inb_S1x16x512_S1x1x512_0_4_0 (r 4) ::
    pc 3 inb_S1x16x512_S1x1x512_0_3_0 (r 3) ::
    pc 2 inb_S1x16x512_S1x1x512_0_2_0 (r 2) ::
    pc 1 inb_S1x16x512_S1x1x512_0_1_0 (r 1) ::
    pc 0 inb_S1x16x512_S1x1x512_0_0_0 (r 0) :: L

/-- The place in a row of a place in the block. -/
def lane (y : S1x16x512.Idx) : S1x1x512.Idx := ix3 (n0 := 1) (n1 := 1) (n2 := 512) 0 0 (y 2)

/-- Off a row's store the earlier stores are read, and in it its value. -/
theorem canon_pc (k j : ℕ) (h) (w : IVec S1x1x512 32) (L : List (SP F)) (y : S1x16x512.Idx) (hj : (y 1).val = j) :
    View.canon (pc k h w :: L) y = if k = j then w (lane y) else View.canon L y := by
  split
  · rename_i e
    subst e
    have hy : y = (Rect.unit (s := S1x16x512) ![0, k, 0] S1x1x512.size h).emb (lane y) := by
      funext a; apply Fin.ext
      match a with
      | ⟨0, _⟩ => have h0 : (y 0).val < 1 := (y 0).isLt; show (y 0).val = 0 + 1 * 0; omega
      | ⟨1, _⟩ => show (y 1).val = k + 1 * 0; omega
      | ⟨2, _⟩ => show (y 2).val = 0 + 1 * (y 2).val; omega
    exact (congrArg (View.canon (pc k h w :: L)) hy).trans (View.canon_cons_emb (Val := Elt F) (e := .i32) (Rect.unit (s := S1x16x512) ![0, k, 0] S1x1x512.size h) w L (lane y))
  · rename_i e
    refine View.canon_cons_of_not_mem _ L fun hm => e ?_
    obtain ⟨x, hx⟩ := (Rect.unit (s := S1x16x512) ![0, k, 0] S1x1x512.size h).exists_idx_of_mem hm
    have h1 : (x 1).val < 1 := (x 1).isLt
    have h2 : k + 1 * (x 1).val = (y 1).val := congrArg (fun z : S1x16x512.Idx => (z 1).val) hx
    omega

/-- Sixteen stores of the sixteen rows: row `k` reads its value, whatever was stored before. -/
theorem canon_pcs (r : ℕ → IVec S1x1x512 32) (L : List (SP F)) (y : S1x16x512.Idx) :
    View.canon (pcs r L) y = r (y 1).val (lane y) := by
  have hlt : (y 1).val < 16 := (y 1).isLt
  generalize hj : (y 1).val = j at hlt
  simp only [pcs, canon_pc _ j _ _ _ y hj]
  interval_cases j <;> rfl

/-- Sixteen stores cover the buffer. -/
theorem cover_pcs (r : ℕ → IVec S1x1x512 32) (L : List (SP F)) (y : S1x16x512.Idx) : ∃ p ∈ pcs r L, y ∈ p.1.set := by
  obtain ⟨p, hp, h⟩ := View.cover_of_tiled (Val := Elt F) (pcs r []) S1x1x512.size (by rfl) y
  refine ⟨p, ?_, h⟩
  simp only [pcs, List.mem_cons, List.not_mem_nil, or_false] at hp ⊢
  tauto

/-- What the body leaves in the output block, from the scores: the extraction over the candidates of some candidate
    arrays or, where the body's test says so, over all the scores. -/
def Post (sc : FVec F S512x4096 .f32) (o : Vec F S1x16x512 .i32) : Prop :=
  ∃ red col : FVec F S512x512 .f32, Cands sc red col
    ∧ (¬ Bad sc red col → ∀ y : S1x16x512.Idx, o y = rowC col (itC col red (y 1).val) (lane y))
    ∧ (Bad sc red col → ∀ y : S1x16x512.Idx, o y = rowF colF (itF colF sc (y 1).val) (lane y))

/-! ## Running the body -/

section Run

variable (c : Dev nD) (E : Set ℕ) (i : grid0.Coords) (arg2 : Memref sig .tc .vmem S1x256x4096 .f32) (harg2 : arg2.IsWhole) (arg3 : Memref sig .tc .vmem S1x256x512 .f32) (harg3 : arg3.IsWhole) (arg4 : Memref sig .tc .vmem S1x16x512 .i32) (harg4 : arg4.IsWhole)
  (x0 : Vec F S1x256x4096 .f32) (x1 : Vec F S1x256x512 .f32) (P : Vec F S1x16x512 .i32 → Prop)

/-- From the input blocks held at `x0` and `x1` and the output block after the stores `L`, the program runs to its end and
    leaves in the output block some contents that meet `P`. -/
def Runs (L : List (SP F)) (prog : Prog (TpuEff nD τ sig (Elt F) Λ₀ .tc) PUnit) : Prop :=
  ∃ o, P o ∧ ∀ f0 f1 f2 (Q : PUnit → sProp 𝕄), arg2.view.read (Elt F) f0 = x0 → arg3.view.read (Elt F) f1 = x1 →
    iprop((arg2.view.loc (c : Thread nD τ) ↦[arg2.view.set]{fullShare} f0) ∗ (arg3.view.loc (c : Thread nD τ) ↦[arg3.view.set]{fullShare} f1)
      ∗ (arg4.view.loc (c : Thread nD τ) ↦[arg4.view.set]{fullShare} arg4.view.writes (Elt F) f2 L)
      ∗ (iprop((arg2.view.loc (c : Thread nD τ) ↦[arg2.view.set]{fullShare} f0) ∗ (arg3.view.loc (c : Thread nD τ) ↦[arg3.view.set]{fullShare} f1)
          ∗ owns (c : Thread nD τ) arg4 fullShare o) -∗ Q ⟨⟩))
      ⊢ wp frame (wpE (defs₀ (F := F)) Variants.none c none) E prog Q

variable {c E i arg2 harg2 arg3 harg3 arg4 harg4 x0 x1 P}

local notation "RR" => Runs c E arg2 arg3 arg4 x0 x1 P

theorem Runs.load0 {L : List (SP F)} {r : Rect S1x256x4096} {hl} {k : _ → Prog (TpuEff nD τ sig (Elt F) Λ₀ .tc) PUnit}
    (h : RR L (k (View.ld x0 r))) : RR L (Prog.lift (.load arg2 r.toLoadRect hl) >>= k) := by
  obtain ⟨o, ho, h⟩ := h
  refine ⟨o, ho, fun f0 f1 f2 Q h0 h1 => ?_⟩
  have h' := h f0 f1 f2 Q h0 h1
  subst h0
  change _ ⊢ wp frame (wpE (defs₀ (F := F)) Variants.none c none) E (.op (.load arg2 r.toLoadRect hl) k) Q
  iintro ⟨H0, H⟩
  ihave H1 := (wp_load Variants.none (c : Thread nD τ) none E (m := arg2) (r := r.toLoadRect) (hl := hl) (k := k) (Q := Q) (S := arg2.view.set) (q := fullShare) (f := f0) (View.setOn_subset_set _ _)) $$ H0
  iapply H1
  iintro H0
  iapply h'
  isplitl [H0]
  · iexact H0
  iexact H

theorem Runs.load1 {L : List (SP F)} {r : Rect S1x256x512} {hl} {k : _ → Prog (TpuEff nD τ sig (Elt F) Λ₀ .tc) PUnit}
    (h : RR L (k (View.ld x1 r))) : RR L (Prog.lift (.load arg3 r.toLoadRect hl) >>= k) := by
  obtain ⟨o, ho, h⟩ := h
  refine ⟨o, ho, fun f0 f1 f2 Q h0 h1 => ?_⟩
  have h' := h f0 f1 f2 Q h0 h1
  subst h1
  change _ ⊢ wp frame (wpE (defs₀ (F := F)) Variants.none c none) E (.op (.load arg3 r.toLoadRect hl) k) Q
  iintro ⟨H0, H1, H⟩
  ihave H2 := (wp_load Variants.none (c : Thread nD τ) none E (m := arg3) (r := r.toLoadRect) (hl := hl) (k := k) (Q := Q) (S := arg3.view.set) (q := fullShare) (f := f1) (View.setOn_subset_set _ _)) $$ H1
  iapply H2
  iintro H1
  iapply h'
  isplitl [H0]
  · iexact H0
  isplitl [H1]
  · iexact H1
  iexact H

theorem Runs.load2 {L : List (SP F)} {r : LoadRect S1x16x512} {hl} {k : Prog (TpuEff nD τ sig (Elt F) Λ₀ .tc) PUnit}
    (h : RR L k) : RR L (Prog.lift (.load arg4 r hl) >>= fun _ => k) := by
  obtain ⟨o, ho, h⟩ := h
  refine ⟨o, ho, fun f0 f1 f2 Q h0 h1 => ?_⟩
  have h' := h f0 f1 f2 Q h0 h1
  change _ ⊢ wp frame (wpE (defs₀ (F := F)) Variants.none c none) E (.op (.load arg4 r hl) fun _ => k) Q
  iintro ⟨H0, H1, H2, H⟩
  ihave H3 := (wp_load Variants.none (c : Thread nD τ) none E (m := arg4) (r := r) (hl := hl) (k := fun _ => k) (Q := Q) (S := arg4.view.set) (q := fullShare) (f := arg4.view.writes (Elt F) f2 L) (View.setOn_subset_set _ _)) $$ H2
  iapply H3
  iintro H2
  iapply h'
  isplitl [H0]
  · iexact H0
  isplitl [H1]
  · iexact H1
  isplitl [H2]
  · iexact H2
  iexact H

theorem Runs.store {L : List (SP F)} {r : Rect S1x16x512} {w hx hm} {k : Prog (TpuEff nD τ sig (Elt F) Λ₀ .tc) PUnit}
    (h : RR (⟨r, w⟩ :: L) k) : RR L (Prog.lift (.store arg4 r w Finset.univ hx hm) >>= fun _ => k) := by
  obtain ⟨o, ho, h⟩ := h
  refine ⟨o, ho, fun f0 f1 f2 Q h0 h1 => ?_⟩
  have h' := h f0 f1 f2 Q h0 h1
  change _ ⊢ wp frame (wpE (defs₀ (F := F)) Variants.none c none) E (.op (.store arg4 r w Finset.univ hx hm) fun _ => k) Q
  iintro ⟨H0, H1, H2, H⟩
  ihave H3 := (wp_store_writes Variants.none (c : Thread nD τ) none E (m := arg4) (r := r) (w := w) (hx := hx) (hm := hm) (k := fun _ => k) (Q := Q) (S := arg4.view.set) (f := f2) (L := L) (View.set_slice_subset _ _)) $$ H2
  iapply H3
  iintro H2
  iapply h'
  isplitl [H0]
  · iexact H0
  isplitl [H1]
  · iexact H1
  isplitl [H2]
  · iexact H2
  iexact H

theorem Runs.ret {L : List (SP F)} (hc : ∀ y, ∃ p ∈ L, y ∈ p.1.set) (h : P (View.canon L)) : RR L (pure ⟨⟩) := by
  refine ⟨_, h, fun f0 f1 f2 Q h0 h1 => ?_⟩
  change _ ⊢ wp frame (wpE (defs₀ (F := F)) Variants.none c none) E (.ret ⟨⟩) Q
  refine BIBase.Entails.trans ?_ (le_wp_ret _ _ _ _ _)
  iintro ⟨H0, H1, H2, H⟩
  iapply H
  isplitl [H0]
  · iexact H0
  isplitl [H1]
  · iexact H1
  unfold owns
  iexists _
  isplitr
  swap
  · iexact H2
  ipureintro
  exact View.read_writes_eq_canon _ _ _ hc

end Run

end Cert.Proof.KnnIdeal

end
-- ==== Proof.NetIdeal.lean ====
module

public import proofs.«01_k».proof.Proof.WalkIdeal
public import Idealize.ShloMosaic.Lib.Claim
public import Idealize.ShloMosaic.Lib.PointwiseCore

@[expose] public section

set_option maxRecDepth 16384

noncomputable section

namespace Cert.Proof.KnnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A value tile chosen by a mask whose columns are not yet chosen. -/
def Half (sc : FVec F S512x4096 .f32) (v : FVec F S512x128 .f32) (M : IVec S512x128 1) (ca cb : FVec F S512x128 .f32) : Prop :=
  ∃ a b, v = select M a b ∧ Cand sc a ca ∧ Cand sc b cb

theorem Half.col {sc : FVec F S512x4096 .f32} {v : FVec F S512x128 .f32} {M : IVec S512x128 1} {ca cb : FVec F S512x128 .f32}
    (h : Half sc v M ca cb) : Cand sc v (select M ca cb) := by
  obtain ⟨a, b, rfl, h1, h2⟩ := h
  exact Cand.sel M h1 h2

section Run

variable {c : Dev nD} {E : Set ℕ} {i : grid0.Coords} {arg2 : Memref sig .tc .vmem S1x256x4096 .f32} {harg2 : arg2.IsWhole} {arg3 : Memref sig .tc .vmem S1x256x512 .f32} {harg3 : arg3.IsWhole} {arg4 : Memref sig .tc .vmem S1x16x512 .i32} {harg4 : arg4.IsWhole}
  {x0 : Vec F S1x256x4096 .f32} {x1 : Vec F S1x256x512 .f32} {P : Vec F S1x16x512 .i32 → Prop}

theorem Runs.pure {α : Type} {L : List (SP F)} {x : α} {k : α → Prog (TpuEff nD τ sig (Elt F) Λ₀ .tc) PUnit}
    (h : Runs c E arg2 arg3 arg4 x0 x1 P L (k x)) : Runs c E arg2 arg3 arg4 x0 x1 P L (Pure.pure x >>= k) := h

/-- Statements of part 8 of the body. -/
theorem part8 {L : List (SP F)}
    {k : ((Σ' (v11 : FVec F S512x4096 .f32) (v13 : FVec F S512x128 .f32) (v14 : FVec F S512x128 .f32) (v16 : FVec F S512x128 .f32) (v17 : FVec F S512x128 .f32) (v19 : FVec F S512x128 .f32) (v20 : FVec F S512x128 .f32) (v22 : FVec F S512x128 .f32) (v23 : FVec F S512x128 .f32) (v25 : FVec F S512x128 .f32) (v26 : FVec F S512x128 .f32) (v28 : FVec F S512x128 .f32) (v29 : FVec F S512x128 .f32) (v31 : FVec F S512x128 .f32) (v32 : FVec F S512x128 .f32) (v34 : FVec F S512x128 .f32) (v35 : FVec F S512x128 .f32) (v37 : FVec F S512x128 .f32) (v38 : FVec F S512x128 .f32), FVec F S512x128 .f32)) → Prog (TpuEff nD τ sig (Elt F) Λ₀ .tc) PUnit}
    (H : ∀ (v11 : FVec F S512x4096 .f32) (v13 : FVec F S512x128 .f32) (v14 : FVec F S512x128 .f32) (v16 : FVec F S512x128 .f32) (v17 : FVec F S512x128 .f32) (v19 : FVec F S512x128 .f32) (v20 : FVec F S512x128 .f32) (v22 : FVec F S512x128 .f32) (v23 : FVec F S512x128 .f32) (v25 : FVec F S512x128 .f32) (v26 : FVec F S512x128 .f32) (v28 : FVec F S512x128 .f32) (v29 : FVec F S512x128 .f32) (v31 : FVec F S512x128 .f32) (v32 : FVec F S512x128 .f32) (v34 : FVec F S512x128 .f32) (v35 : FVec F S512x128 .f32) (v37 : FVec F S512x128 .f32) (v38 : FVec F S512x128 .f32) (v39 : FVec F S512x128 .f32),
      v11 = k0_pay71 (View.ld x0 (Rect.unit (s := S1x256x4096) ![0, 0, 0] S1x256x4096.size inb_S1x256x4096_S1x256x4096_0_0_0)) (View.ld x1 (Rect.unit (s := S1x256x512) ![0, 0, 0] S1x256x512.size inb_S1x256x512_S1x256x512_0_0_0)) →
      Cand v11 v14 v16 →
      Cand v11 v17 v19 →
      Cand v11 v20 v22 →
      Cand v11 v23 v25 →
      Cand v11 v26 v28 →
      Cand v11 v29 v31 →
      Cand v11 v32 v34 →
      Cand v11 v35 v37 →
      v13 = (sitofp .f32 (iota .tc S512x128 32 [1] iota_S512x128_d1_w32)) →
      v38 = extractStridedSlice S512x128 ![0, 1024] v11 slices_S512x4096_o0_1024_S512x128 →
      v39 = broadcast S512x128 (Scalar.ofBits .f32 0x44800000#32 : F .f32) →
      Runs c E arg2 arg3 arg4 x0 x1 P L (k ⟨v11, v13, v14, v16, v17, v19, v20, v22, v23, v25, v26, v28, v29, v31, v32, v34, v35, v37, v38, v39⟩)) :
    Runs c E arg2 arg3 arg4 x0 x1 P L (k0_part8 i arg2 harg2 arg3 harg3 arg4 harg4 >>= k) := by
  rw [k0_part8_eq_skeleton]
  unfold k0_part8_skel
  refine Runs.load0 ?_
  refine Runs.load1 ?_
  generalize hv0 : View.ld x0 (Rect.unit (s := S1x256x4096) ![0, 0, 0] S1x256x4096.size inb_S1x256x4096_S1x256x4096_0_0_0) = v0 at H ⊢
  generalize hv2 : View.ld x1 (Rect.unit (s := S1x256x512) ![0, 0, 0] S1x256x512.size inb_S1x256x512_S1x256x512_0_0_0) = v2 at H ⊢
  refine Runs.pure ?_
  have c_v14 : Cand (k0_pay71 v0 v2) (k0_pay73 v0 v2) (k0_pay74 (F := F)) := fun y => ⟨0, slices_S512x4096_o0_0_S512x128, rfl, rfl⟩
  have c_v17 : Cand (k0_pay71 v0 v2) (k0_pay75 v0 v2) (k0_pay76 (F := F)) := fun y => ⟨1, slices_S512x4096_o0_128_S512x128, rfl, rfl⟩
  have c_v20 : Cand (k0_pay71 v0 v2) (k0_pay77 v0 v2) (k0_pay78 (F := F)) := fun y => ⟨2, slices_S512x4096_o0_256_S512x128, rfl, rfl⟩
  have c_v23 : Cand (k0_pay71 v0 v2) (k0_pay79 v0 v2) (k0_pay80 (F := F)) := fun y => ⟨3, slices_S512x4096_o0_384_S512x128, rfl, rfl⟩
  have c_v26 : Cand (k0_pay71 v0 v2) (k0_pay81 v0 v2) (k0_pay82 (F := F)) := fun y => ⟨4, slices_S512x4096_o0_512_S512x128, rfl, rfl⟩
  have c_v29 : Cand (k0_pay71 v0 v2) (k0_pay83 v0 v2) (k0_pay84 (F := F)) := fun y => ⟨5, slices_S512x4096_o0_640_S512x128, rfl, rfl⟩
  have c_v32 : Cand (k0_pay71 v0 v2) (k0_pay85 v0 v2) (k0_pay86 (F := F)) := fun y => ⟨6, slices_S512x4096_o0_768_S512x128, rfl, rfl⟩
  have c_v35 : Cand (k0_pay71 v0 v2) (k0_pay87 v0 v2) (k0_pay88 (F := F)) := fun y => ⟨7, slices_S512x4096_o0_896_S512x128, rfl, rfl⟩
  exact H _ _ _ _ _ _ _ _ _ _ _ _ _ _ _ _ _ _ _ _ rfl c_v14 c_v17 c_v20 c_v23 c_v26 c_v29 c_v32 c_v35 rfl rfl rfl

/-- Statements of part 9 of the body. -/
theorem part9 {L : List (SP F)} (v38 : FVec F S512x128 .f32) (v11 : FVec F S512x4096 .f32) (v13 : FVec F S512x128 .f32) (v39 : FVec F S512x128 .f32)
    (h_v13 : v13 = (sitofp .f32 (iota .tc S512x128 32 [1] iota_S512x128_d1_w32)))
    (h_v39 : v39 = broadcast S512x128 (Scalar.ofBits .f32 0x44800000#32 : F .f32))
    (h_v38 : v38 = extractStridedSlice S512x128 ![0, 1024] v11 slices_S512x4096_o0_1024_S512x128)
    {k : ((Σ' (v40 : FVec F S512x128 .f32) (v41 : FVec F S512x128 .f32) (v43 : FVec F S512x128 .f32) (v44 : FVec F S512x128 .f32) (v46 : FVec F S512x128 .f32) (v47 : FVec F S512x128 .f32) (v49 : FVec F S512x128 .f32) (v50 : FVec F S512x128 .f32) (v52 : FVec F S512x128 .f32) (v53 : FVec F S512x128 .f32) (v55 : FVec F S512x128 .f32) (v56 : FVec F S512x128 .f32) (v58 : FVec F S512x128 .f32) (v59 : FVec F S512x128 .f32) (v61 : FVec F S512x128 .f32) (v62 : FVec F S512x128 .f32) (v64 : FVec F S512x128 .f32) (v65 : FVec F S512x128 .f32) (v67 : FVec F S512x128 .f32) (v68 : FVec F S512x128 .f32) (v70 : FVec F S512x128 .f32) (v71 : FVec F S512x128 .f32) (v73 : FVec F S512x128 .f32) (v74 : FVec F S512x128 .f32) (v76 : FVec F S512x128 .f32) (v77 : FVec F S512x128 .f32) (v79 : FVec F S512x128 .f32) (v80 : FVec F S512x128 .f32) (v82 : FVec F S512x128 .f32) (v83 : FVec F S512x128 .f32), FVec F S512x128 .f32)) → Prog (TpuEff nD τ sig (Elt F) Λ₀ .tc) PUnit}
    (H : ∀ (v40 : FVec F S512x128 .f32) (v41 : FVec F S512x128 .f32) (v43 : FVec F S512x128 .f32) (v44 : FVec F S512x128 .f32) (v46 : FVec F S512x128 .f32) (v47 : FVec F S512x128 .f32) (v49 : FVec F S512x128 .f32) (v50 : FVec F S512x128 .f32) (v52 : FVec F S512x128 .f32) (v53 : FVec F S512x128 .f32) (v55 : FVec F S512x128 .f32) (v56 : FVec F S512x128 .f32) (v58 : FVec F S512x128 .f32) (v59 : FVec F S512x128 .f32) (v61 : FVec F S512x128 .f32) (v62 : FVec F S512x128 .f32) (v64 : FVec F S512x128 .f32) (v65 : FVec F S512x128 .f32) (v67 : FVec F S512x128 .f32) (v68 : FVec F S512x128 .f32) (v70 : FVec F S512x128 .f32) (v71 : FVec F S512x128 .f32) (v73 : FVec F S512x128 .f32) (v74 : FVec F S512x128 .f32) (v76 : FVec F S512x128 .f32) (v77 : FVec F S512x128 .f32) (v79 : FVec F S512x128 .f32) (v80 : FVec F S512x128 .f32) (v82 : FVec F S512x128 .f32) (v83 : FVec F S512x128 .f32) (v84 : FVec F S512x128 .f32),
      Cand v11 v38 v40 →
      Cand v11 v41 v43 →
      Cand v11 v44 v46 →
      Cand v11 v47 v49 →
      Cand v11 v50 v52 →
      Cand v11 v53 v55 →
      Cand v11 v56 v58 →
      Cand v11 v59 v61 →
      Cand v11 v62 v64 →
      Cand v11 v65 v67 →
      Cand v11 v68 v70 →
      Cand v11 v71 v73 →
      Cand v11 v74 v76 →
      Cand v11 v77 v79 →
      Cand v11 v80 v82 →
      v83 = extractStridedSlice S512x128 ![0, 2944] v11 slices_S512x4096_o0_2944_S512x128 →
      v84 = broadcast S512x128 (Scalar.ofBits .f32 0x45380000#32 : F .f32) →
      Runs c E arg2 arg3 arg4 x0 x1 P L (k ⟨v40, v41, v43, v44, v46, v47, v49, v50, v52, v53, v55, v56, v58, v59, v61, v62, v64, v65, v67, v68, v70, v71, v73, v74, v76, v77, v79, v80, v82, v83, v84⟩)) :
    Runs c E arg2 arg3 arg4 x0 x1 P L (k0_part9 i arg2 harg2 arg3 harg3 arg4 harg4 v11 v13 v39 >>= k) := by
  rw [k0_part9_eq_skeleton]
  unfold k0_part9_skel
  refine Runs.pure ?_
  subst h_v13
  subst h_v39
  have c_v38 : Cand v11 v38 (k0_pay91 (sitofp .f32 (iota .tc S512x128 32 [1] iota_S512x128_d1_w32)) (broadcast S512x128 (Scalar.ofBits .f32 0x44800000#32 : F .f32))) := fun y => ⟨8, slices_S512x4096_o0_1024_S512x128, congrFun h_v38 y, rfl⟩
  have c_v41 : Cand v11 (k0_pay92 v11) (k0_pay93 (sitofp .f32 (iota .tc S512x128 32 [1] iota_S512x128_d1_w32))) := fun y => ⟨9, slices_S512x4096_o0_1152_S512x128, rfl, rfl⟩
  have c_v44 : Cand v11 (k0_pay94 v11) (k0_pay95 (sitofp .f32 (iota .tc S512x128 32 [1] iota_S512x128_d1_w32))) := fun y => ⟨10, slices_S512x4096_o0_1280_S512x128, rfl, rfl⟩
  have c_v47 : Cand v11 (k0_pay96 v11) (k0_pay97 (sitofp .f32 (iota .tc S512x128 32 [1] iota_S512x128_d1_w32))) := fun y => ⟨11, slices_S512x4096_o0_1408_S512x128, rfl, rfl⟩
  have c_v50 : Cand v11 (k0_pay98 v11) (k0_pay99 (sitofp .f32 (iota .tc S512x128 32 [1] iota_S512x128_d1_w32))) := fun y => ⟨12, slices_S512x4096_o0_1536_S512x128, rfl, rfl⟩
  have c_v53 : Cand v11 (k0_pay100 v11) (k0_pay101 (sitofp .f32 (iota .tc S512x128 32 [1] iota_S512x128_d1_w32))) := fun y => ⟨13, slices_S512x4096_o0_1664_S512x128, rfl, rfl⟩
  have c_v56 : Cand v11 (k0_pay102 v11) (k0_pay103 (sitofp .f32 (iota .tc S512x128 32 [1] iota_S512x128_d1_w32))) := fun y => ⟨14, slices_S512x4096_o0_1792_S512x128, rfl, rfl⟩
  have c_v59 : Cand v11 (k0_pay104 v11) (k0_pay105 (sitofp .f32 (iota .tc S512x128 32 [1] iota_S512x128_d1_w32))) := fun y => ⟨15, slices_S512x4096_o0_1920_S512x128, rfl, rfl⟩
  have c_v62 : Cand v11 (k0_pay106 v11) (k0_pay107 (sitofp .f32 (iota .tc S512x128 32 [1] iota_S512x128_d1_w32))) := fun y => ⟨16, slices_S512x4096_o0_2048_S512x128, rfl, rfl⟩
  have c_v65 : Cand v11 (k0_pay108 v11) (k0_pay109 (sitofp .f32 (iota .tc S512x128 32 [1] iota_S512x128_d1_w32))) := fun y => ⟨17, slices_S512x4096_o0_2176_S512x128, rfl, rfl⟩
  have c_v68 : Cand v11 (k0_pay110 v11) (k0_pay111 (sitofp .f32 (iota .tc S512x128 32 [1] iota_S512x128_d1_w32))) := fun y => ⟨18, slices_S512x4096_o0_2304_S512x128, rfl, rfl⟩
  have c_v71 : Cand v11 (k0_pay112 v11) (k0_pay113 (sitofp .f32 (iota .tc S512x128 32 [1] iota_S512x128_d1_w32))) := fun y => ⟨19, slices_S512x4096_o0_2432_S512x128, rfl, rfl⟩
  have c_v74 : Cand v11 (k0_pay114 v11) (k0_pay115 (sitofp .f32 (iota .tc S512x128 32 [1] iota_S512x128_d1_w32))) := fun y => ⟨20, slices_S512x4096_o0_2560_S512x128, rfl, rfl⟩
  have c_v77 : Cand v11 (k0_pay116 v11) (k0_pay117 (sitofp .f32 (iota .tc S512x128 32 [1] iota_S512x128_d1_w32))) := fun y => ⟨21, slices_S512x4096_o0_2688_S512x128, rfl, rfl⟩
  have c_v80 : Cand v11 (k0_pay118 v11) (k0_pay119 (sitofp .f32 (iota .tc S512x128 32 [1] iota_S512x128_d1_w32))) := fun y => ⟨22, slices_S512x4096_o0_2816_S512x128, rfl, rfl⟩
  exact H _ _ _ _ _ _ _ _ _ _ _ _ _ _ _ _ _ _ _ _ _ _ _ _ _ _ _ _ _ _ _ c_v38 c_v41 c_v44 c_v47 c_v50 c_v53 c_v56 c_v59 c_v62 c_v65 c_v68 c_v71 c_v74 c_v77 c_v80 rfl rfl

/-- Statements of part 10 of the body. -/
theorem part10 {L : List (SP F)} (v83 : FVec F S512x128 .f32) (v31 : FVec F S512x128 .f32) (v28 : FVec F S512x128 .f32) (v11 : FVec F S512x4096 .f32) (v13 : FVec F S512x128 .f32) (v14 : FVec F S512x128 .f32) (v16 : FVec F S512x128 .f32) (v17 : FVec F S512x128 .f32) (v19 : FVec F S512x128 .f32) (v20 : FVec F S512x128 .f32) (v22 : FVec F S512x128 .f32) (v23 : FVec F S512x128 .f32) (v25 : FVec F S512x128 .f32) (v26 : FVec F S512x128 .f32) (v29 : FVec F S512x128 .f32) (v84 : FVec F S512x128 .f32)
    (h_v13 : v13 = (sitofp .f32 (iota .tc S512x128 32 [1] iota_S512x128_d1_w32)))
    (h_v14 : Cand v11 v14 v16)
    (h_v17 : Cand v11 v17 v19)
    (h_v20 : Cand v11 v20 v22)
    (h_v23 : Cand v11 v23 v25)
    (h_v84 : v84 = broadcast S512x128 (Scalar.ofBits .f32 0x45380000#32 : F .f32))
    (h_v83 : v83 = extractStridedSlice S512x128 ![0, 2944] v11 slices_S512x4096_o0_2944_S512x128)
    (h_v29 : Cand v11 v29 v31)
    (h_v26 : Cand v11 v26 v28)
    {k : ((Σ' (v85 : FVec F S512x128 .f32) (v86 : FVec F S512x128 .f32) (v88 : FVec F S512x128 .f32) (v89 : FVec F S512x128 .f32) (v91 : FVec F S512x128 .f32) (v92 : FVec F S512x128 .f32) (v94 : FVec F S512x128 .f32) (v95 : FVec F S512x128 .f32) (v97 : FVec F S512x128 .f32) (v98 : FVec F S512x128 .f32) (v100 : FVec F S512x128 .f32) (v101 : FVec F S512x128 .f32) (v103 : FVec F S512x128 .f32) (v104 : FVec F S512x128 .f32) (v106 : FVec F S512x128 .f32) (v107 : FVec F S512x128 .f32) (v109 : FVec F S512x128 .f32) (v121 : FVec F S512x128 .f32) (v122 : FVec F S512x128 .f32) (v128 : FVec F S512x128 .f32) (v129 : FVec F S512x128 .f32) (v131 : FVec F S512x128 .f32) (v132 : FVec F S512x128 .f32) (v133 : FVec F S512x128 .f32) (v134 : FVec F S512x128 .f32) (v135 : IVec S512x128 1), FVec F S512x128 .f32)) → Prog (TpuEff nD τ sig (Elt F) Λ₀ .tc) PUnit}
    (H : ∀ (v85 : FVec F S512x128 .f32) (v86 : FVec F S512x128 .f32) (v88 : FVec F S512x128 .f32) (v89 : FVec F S512x128 .f32) (v91 : FVec F S512x128 .f32) (v92 : FVec F S512x128 .f32) (v94 : FVec F S512x128 .f32) (v95 : FVec F S512x128 .f32) (v97 : FVec F S512x128 .f32) (v98 : FVec F S512x128 .f32) (v100 : FVec F S512x128 .f32) (v101 : FVec F S512x128 .f32) (v103 : FVec F S512x128 .f32) (v104 : FVec F S512x128 .f32) (v106 : FVec F S512x128 .f32) (v107 : FVec F S512x128 .f32) (v109 : FVec F S512x128 .f32) (v121 : FVec F S512x128 .f32) (v122 : FVec F S512x128 .f32) (v128 : FVec F S512x128 .f32) (v129 : FVec F S512x128 .f32) (v131 : FVec F S512x128 .f32) (v132 : FVec F S512x128 .f32) (v133 : FVec F S512x128 .f32) (v134 : FVec F S512x128 .f32) (v135 : IVec S512x128 1) (v136 : FVec F S512x128 .f32),
      Cand v11 v83 v85 →
      Cand v11 v86 v88 →
      Cand v11 v89 v91 →
      Cand v11 v92 v94 →
      Cand v11 v95 v97 →
      Cand v11 v98 v100 →
      Cand v11 v101 v103 →
      Cand v11 v104 v106 →
      Cand v11 v107 v109 →
      Cand v11 v121 v122 →
      Cand v11 v128 v129 →
      Cand v11 v131 v132 →
      Cand v11 v133 v134 →
      Half v11 v136 v135 v31 v28 →
      Runs c E arg2 arg3 arg4 x0 x1 P L (k ⟨v85, v86, v88, v89, v91, v92, v94, v95, v97, v98, v100, v101, v103, v104, v106, v107, v109, v121, v122, v128, v129, v131, v132, v133, v134, v135, v136⟩)) :
    Runs c E arg2 arg3 arg4 x0 x1 P L (k0_part10 i arg2 harg2 arg3 harg3 arg4 harg4 v11 v13 v14 v16 v17 v19 v20 v22 v23 v25 v26 v29 v84 >>= k) := by
  rw [k0_part10_eq_skeleton]
  unfold k0_part10_skel
  refine Runs.pure ?_
  subst h_v13
  subst h_v84
  have c_v83 : Cand v11 v83 (k0_pay122 (sitofp .f32 (iota .tc S512x128 32 [1] iota_S512x128_d1_w32)) (broadcast S512x128 (Scalar.ofBits .f32 0x45380000#32 : F .f32))) := fun y => ⟨23, slices_S512x4096_o0_2944_S512x128, congrFun h_v83 y, rfl⟩
  have c_v86 : Cand v11 (k0_pay123 v11) (k0_pay124 (sitofp .f32 (iota .tc S512x128 32 [1] iota_S512x128_d1_w32))) := fun y => ⟨24, slices_S512x4096_o0_3072_S512x128, rfl, rfl⟩
  have c_v89 : Cand v11 (k0_pay125 v11) (k0_pay126 (sitofp .f32 (iota .tc S512x128 32 [1] iota_S512x128_d1_w32))) := fun y => ⟨25, slices_S512x4096_o0_3200_S512x128, rfl, rfl⟩
  have c_v92 : Cand v11 (k0_pay127 v11) (k0_pay128 (sitofp .f32 (iota .tc S512x128 32 [1] iota_S512x128_d1_w32))) := fun y => ⟨26, slices_S512x4096_o0_3328_S512x128, rfl, rfl⟩
  have c_v95 : Cand v11 (k0_pay129 v11) (k0_pay130 (sitofp .f32 (iota .tc S512x128 32 [1] iota_S512x128_d1_w32))) := fun y => ⟨27, slices_S512x4096_o0_3456_S512x128, rfl, rfl⟩
  have c_v98 : Cand v11 (k0_pay131 v11) (k0_pay132 (sitofp .f32 (iota .tc S512x128 32 [1] iota_S512x128_d1_w32))) := fun y => ⟨28, slices_S512x4096_o0_3584_S512x128, rfl, rfl⟩
  have c_v101 : Cand v11 (k0_pay133 v11) (k0_pay134 (sitofp .f32 (iota .tc S512x128 32 [1] iota_S512x128_d1_w32))) := fun y => ⟨29, slices_S512x4096_o0_3712_S512x128, rfl, rfl⟩
  have c_v104 : Cand v11 (k0_pay135 v11) (k0_pay136 (sitofp .f32 (iota .tc S512x128 32 [1] iota_S512x128_d1_w32))) := fun y => ⟨30, slices_S512x4096_o0_3840_S512x128, rfl, rfl⟩
  have c_v107 : Cand v11 (k0_pay137 v11) (k0_pay138 (sitofp .f32 (iota .tc S512x128 32 [1] iota_S512x128_d1_w32))) := fun y => ⟨31, slices_S512x4096_o0_3968_S512x128, rfl, rfl⟩
  have c_v111 : Cand v11 (k0_pay140 v14 v17) (k0_pay141 v14 v16 v17 v19) := Cand.sel (k0_pay139 v14 v17) h_v17 h_v14
  have c_v113 : Cand v11 (k0_pay142 v14 v17) (k0_pay143 v14 v16 v17 v19) := Cand.sel (k0_pay139 v14 v17) h_v14 h_v17
  have c_v116 : Cand v11 (k0_pay145 v20 v23) (k0_pay146 v20 v22 v23 v25) := Cand.sel (k0_pay144 v20 v23) h_v23 h_v20
  have c_v118 : Cand v11 (k0_pay147 v20 v23) (k0_pay148 v20 v22 v23 v25) := Cand.sel (k0_pay144 v20 v23) h_v20 h_v23
  have c_v121 : Cand v11 (k0_pay150 v14 v17 v20 v23) (k0_pay151 v14 v16 v17 v19 v20 v22 v23 v25) := Cand.sel (k0_pay149 v14 v17 v20 v23) c_v116 c_v111
  have c_v123 : Cand v11 (k0_pay152 v14 v17 v20 v23) (k0_pay153 v14 v16 v17 v19 v20 v22 v23 v25) := Cand.sel (k0_pay149 v14 v17 v20 v23) c_v111 c_v116
  have c_v126 : Cand v11 (k0_pay155 v14 v17 v20 v23) (k0_pay156 v14 v16 v17 v19 v20 v22 v23 v25) := Cand.sel (k0_pay154 v14 v17 v20 v23) c_v118 c_v113
  have c_v128 : Cand v11 (k0_pay157 v14 v17 v20 v23) (k0_pay158 v14 v16 v17 v19 v20 v22 v23 v25) := Cand.sel (k0_pay154 v14 v17 v20 v23) c_v113 c_v118
  have c_v131 : Cand v11 (k0_pay160 v14 v17 v20 v23) (k0_pay161 v14 v16 v17 v19 v20 v22 v23 v25) := Cand.sel (k0_pay159 v14 v17 v20 v23) c_v126 c_v123
  have c_v133 : Cand v11 (k0_pay162 v14 v17 v20 v23) (k0_pay163 v14 v16 v17 v19 v20 v22 v23 v25) := Cand.sel (k0_pay159 v14 v17 v20 v23) c_v123 c_v126
  exact H _ _ _ _ _ _ _ _ _ _ _ _ _ _ _ _ _ _ _ _ _ _ _ _ _ _ _ c_v83 c_v86 c_v89 c_v92 c_v95 c_v98 c_v101 c_v104 c_v107 c_v121 c_v128 c_v131 c_v133 ⟨_, _, rfl, h_v29, h_v26⟩

/-- Statements of part 11 of the body. -/
theorem part11 {L : List (SP F)} (v11 : FVec F S512x4096 .f32) (v26 : FVec F S512x128 .f32) (v28 : FVec F S512x128 .f32) (v29 : FVec F S512x128 .f32) (v31 : FVec F S512x128 .f32) (v32 : FVec F S512x128 .f32) (v34 : FVec F S512x128 .f32) (v35 : FVec F S512x128 .f32) (v37 : FVec F S512x128 .f32) (v38 : FVec F S512x128 .f32) (v40 : FVec F S512x128 .f32) (v41 : FVec F S512x128 .f32) (v43 : FVec F S512x128 .f32) (v121 : FVec F S512x128 .f32) (v122 : FVec F S512x128 .f32) (v128 : FVec F S512x128 .f32) (v129 : FVec F S512x128 .f32) (v131 : FVec F S512x128 .f32) (v132 : FVec F S512x128 .f32) (v133 : FVec F S512x128 .f32) (v134 : FVec F S512x128 .f32) (v135 : IVec S512x128 1) (v136 : FVec F S512x128 .f32)
    (h_v26 : Cand v11 v26 v28)
    (h_v29 : Cand v11 v29 v31)
    (h_v32 : Cand v11 v32 v34)
    (h_v35 : Cand v11 v35 v37)
    (h_v38 : Cand v11 v38 v40)
    (h_v41 : Cand v11 v41 v43)
    (h_v121 : Cand v11 v121 v122)
    (h_v128 : Cand v11 v128 v129)
    (h_v131 : Cand v11 v131 v132)
    (h_v133 : Cand v11 v133 v134)
    (h_v136 : Half v11 v136 v135 v31 v28)
    {k : ((Σ' (v183 : FVec F S512x128 .f32) (v184 : FVec F S512x128 .f32) (v185 : FVec F S512x128 .f32) (v186 : FVec F S512x128 .f32) (v188 : FVec F S512x128 .f32) (v189 : FVec F S512x128 .f32) (v190 : FVec F S512x128 .f32) (v191 : FVec F S512x128 .f32) (v193 : FVec F S512x128 .f32) (v194 : FVec F S512x128 .f32) (v195 : FVec F S512x128 .f32), FVec F S512x128 .f32)) → Prog (TpuEff nD τ sig (Elt F) Λ₀ .tc) PUnit}
    (H : ∀ (v183 : FVec F S512x128 .f32) (v184 : FVec F S512x128 .f32) (v185 : FVec F S512x128 .f32) (v186 : FVec F S512x128 .f32) (v188 : FVec F S512x128 .f32) (v189 : FVec F S512x128 .f32) (v190 : FVec F S512x128 .f32) (v191 : FVec F S512x128 .f32) (v193 : FVec F S512x128 .f32) (v194 : FVec F S512x128 .f32) (v195 : FVec F S512x128 .f32) (v196 : FVec F S512x128 .f32),
      Cand v11 v183 v184 →
      Cand v11 v185 v186 →
      Cand v11 v188 v189 →
      Cand v11 v190 v191 →
      Cand v11 v193 v194 →
      Cand v11 v195 v196 →
      Runs c E arg2 arg3 arg4 x0 x1 P L (k ⟨v183, v184, v185, v186, v188, v189, v190, v191, v193, v194, v195, v196⟩)) :
    Runs c E arg2 arg3 arg4 x0 x1 P L (k0_part11 i arg2 harg2 arg3 harg3 arg4 harg4 v26 v28 v29 v31 v32 v34 v35 v37 v38 v40 v41 v43 v121 v122 v128 v129 v131 v132 v133 v134 v135 v136 >>= k) := by
  rw [k0_part11_eq_skeleton]
  unfold k0_part11_skel
  refine Runs.pure ?_
  have c_v136 : Cand v11 v136 (k0_pay166 v28 v31 v135) := h_v136.col
  have c_v138 : Cand v11 (k0_pay167 v26 v29 v135) (k0_pay168 v28 v31 v135) := Cand.sel v135 h_v26 h_v29
  have c_v141 : Cand v11 (k0_pay170 v32 v35) (k0_pay171 v32 v34 v35 v37) := Cand.sel (k0_pay169 v32 v35) h_v35 h_v32
  have c_v143 : Cand v11 (k0_pay172 v32 v35) (k0_pay173 v32 v34 v35 v37) := Cand.sel (k0_pay169 v32 v35) h_v32 h_v35
  have c_v146 : Cand v11 (k0_pay175 v32 v35 v136) (select (k0_pay174 v32 v35 v136) (k0_pay171 v32 v34 v35 v37) (k0_pay166 v28 v31 v135)) := Cand.sel (k0_pay174 v32 v35 v136) c_v141 c_v136
  have c_v148 : Cand v11 (k0_pay176 v32 v35 v136) (k0_pay177 v28 v31 v32 v34 v35 v37 v135 v136) := Cand.sel (k0_pay174 v32 v35 v136) c_v136 c_v141
  have c_v151 : Cand v11 (k0_pay179 v26 v29 v32 v35 v135) (k0_pay180 v26 v28 v29 v31 v32 v34 v35 v37 v135) := Cand.sel (k0_pay178 v26 v29 v32 v35 v135) c_v143 c_v138
  have c_v153 : Cand v11 (k0_pay181 v26 v29 v32 v35 v135) (select (k0_pay178 v26 v29 v32 v35 v135) (k0_pay168 v28 v31 v135) (k0_pay173 v32 v34 v35 v37)) := Cand.sel (k0_pay178 v26 v29 v32 v35 v135) c_v138 c_v143
  have c_v156 : Cand v11 (k0_pay183 v26 v29 v32 v35 v135 v136) (select (k0_pay182 v26 v29 v32 v35 v135 v136) (k0_pay180 v26 v28 v29 v31 v32 v34 v35 v37 v135) (k0_pay177 v28 v31 v32 v34 v35 v37 v135 v136)) := Cand.sel (k0_pay182 v26 v29 v32 v35 v135 v136) c_v151 c_v148
  have c_v158 : Cand v11 (k0_pay184 v26 v29 v32 v35 v135 v136) (select (k0_pay182 v26 v29 v32 v35 v135 v136) (k0_pay177 v28 v31 v32 v34 v35 v37 v135 v136) (k0_pay180 v26 v28 v29 v31 v32 v34 v35 v37 v135)) := Cand.sel (k0_pay182 v26 v29 v32 v35 v135 v136) c_v148 c_v151
  have c_v161 : Cand v11 (k0_pay186 v26 v29 v32 v35 v121 v135) (k0_pay187 v26 v28 v29 v31 v32 v34 v35 v37 v121 v122 v135) := Cand.sel (k0_pay185 v26 v29 v32 v35 v121 v135) c_v153 h_v121
  have c_v164 : Cand v11 (k0_pay189 v26 v29 v32 v35 v131 v135 v136) (k0_pay190 v26 v28 v29 v31 v32 v34 v35 v37 v131 v132 v135 v136) := Cand.sel (k0_pay188 v26 v29 v32 v35 v131 v135 v136) c_v158 h_v131
  have c_v167 : Cand v11 (k0_pay192 v26 v29 v32 v35 v133 v135 v136) (k0_pay193 v26 v28 v29 v31 v32 v34 v35 v37 v133 v134 v135 v136) := Cand.sel (k0_pay191 v26 v29 v32 v35 v133 v135 v136) c_v156 h_v133
  have c_v170 : Cand v11 (k0_pay195 v32 v35 v128 v136) (k0_pay196 v28 v31 v32 v34 v35 v37 v128 v129 v135 v136) := Cand.sel (k0_pay194 v32 v35 v128 v136) c_v146 h_v128
  have c_v173 : Cand v11 (k0_pay198 v26 v29 v32 v35 v121 v133 v135 v136) (k0_pay199 v26 v28 v29 v31 v32 v34 v35 v37 v121 v122 v133 v134 v135 v136) := Cand.sel (k0_pay197 v26 v29 v32 v35 v121 v133 v135 v136) c_v167 c_v161
  have c_v175 : Cand v11 (k0_pay200 v26 v29 v32 v35 v121 v133 v135 v136) (k0_pay201 v26 v28 v29 v31 v32 v34 v35 v37 v121 v122 v133 v134 v135 v136) := Cand.sel (k0_pay197 v26 v29 v32 v35 v121 v133 v135 v136) c_v161 c_v167
  have c_v178 : Cand v11 (k0_pay203 v26 v29 v32 v35 v128 v131 v135 v136) (k0_pay204 v26 v28 v29 v31 v32 v34 v35 v37 v128 v129 v131 v132 v135 v136) := Cand.sel (k0_pay202 v26 v29 v32 v35 v128 v131 v135 v136) c_v170 c_v164
  have c_v180 : Cand v11 (k0_pay205 v26 v29 v32 v35 v128 v131 v135 v136) (k0_pay206 v26 v28 v29 v31 v32 v34 v35 v37 v128 v129 v131 v132 v135 v136) := Cand.sel (k0_pay202 v26 v29 v32 v35 v128 v131 v135 v136) c_v164 c_v170
  have c_v183 : Cand v11 (k0_pay208 v26 v29 v32 v35 v121 v128 v131 v133 v135 v136) (k0_pay209 v26 v28 v29 v31 v32 v34 v35 v37 v121 v122 v128 v129 v131 v132 v133 v134 v135 v136) := Cand.sel (k0_pay207 v26 v29 v32 v35 v121 v128 v131 v133 v135 v136) c_v178 c_v173
  have c_v185 : Cand v11 (k0_pay210 v26 v29 v32 v35 v121 v128 v131 v133 v135 v136) (k0_pay211 v26 v28 v29 v31 v32 v34 v35 v37 v121 v122 v128 v129 v131 v132 v133 v134 v135 v136) := Cand.sel (k0_pay207 v26 v29 v32 v35 v121 v128 v131 v133 v135 v136) c_v173 c_v178
  have c_v188 : Cand v11 (k0_pay213 v26 v29 v32 v35 v121 v128 v131 v133 v135 v136) (k0_pay214 v26 v28 v29 v31 v32 v34 v35 v37 v121 v122 v128 v129 v131 v132 v133 v134 v135 v136) := Cand.sel (k0_pay212 v26 v29 v32 v35 v121 v128 v131 v133 v135 v136) c_v180 c_v175
  have c_v190 : Cand v11 (k0_pay215 v26 v29 v32 v35 v121 v128 v131 v133 v135 v136) (k0_pay216 v26 v28 v29 v31 v32 v34 v35 v37 v121 v122 v128 v129 v131 v132 v133 v134 v135 v136) := Cand.sel (k0_pay212 v26 v29 v32 v35 v121 v128 v131 v133 v135 v136) c_v175 c_v180
  have c_v193 : Cand v11 (k0_pay218 v38 v41) (k0_pay219 v38 v40 v41 v43) := Cand.sel (k0_pay217 v38 v41) h_v41 h_v38
  have c_v195 : Cand v11 (k0_pay220 v38 v41) (k0_pay221 v38 v40 v41 v43) := Cand.sel (k0_pay217 v38 v41) h_v38 h_v41
  exact H _ _ _ _ _ _ _ _ _ _ _ _ c_v183 c_v185 c_v188 c_v190 c_v193 c_v195

/-- Statements of part 12 of the body. -/
theorem part12 {L : List (SP F)} (v11 : FVec F S512x4096 .f32) (v44 : FVec F S512x128 .f32) (v46 : FVec F S512x128 .f32) (v47 : FVec F S512x128 .f32) (v49 : FVec F S512x128 .f32) (v50 : FVec F S512x128 .f32) (v52 : FVec F S512x128 .f32) (v53 : FVec F S512x128 .f32) (v55 : FVec F S512x128 .f32) (v56 : FVec F S512x128 .f32) (v58 : FVec F S512x128 .f32) (v59 : FVec F S512x128 .f32) (v61 : FVec F S512x128 .f32) (v193 : FVec F S512x128 .f32) (v194 : FVec F S512x128 .f32) (v195 : FVec F S512x128 .f32) (v196 : FVec F S512x128 .f32)
    (h_v44 : Cand v11 v44 v46)
    (h_v47 : Cand v11 v47 v49)
    (h_v50 : Cand v11 v50 v52)
    (h_v53 : Cand v11 v53 v55)
    (h_v56 : Cand v11 v56 v58)
    (h_v59 : Cand v11 v59 v61)
    (h_v193 : Cand v11 v193 v194)
    (h_v195 : Cand v11 v195 v196)
    {k : ((Σ' (v243 : FVec F S512x128 .f32) (v244 : FVec F S512x128 .f32) (v246 : FVec F S512x128 .f32) (v247 : FVec F S512x128 .f32) (v249 : FVec F S512x128 .f32) (v250 : FVec F S512x128 .f32) (v252 : FVec F S512x128 .f32) (v253 : FVec F S512x128 .f32) (v254 : IVec S512x128 1) (v255 : FVec F S512x128 .f32), FVec F S512x128 .f32)) → Prog (TpuEff nD τ sig (Elt F) Λ₀ .tc) PUnit}
    (H : ∀ (v243 : FVec F S512x128 .f32) (v244 : FVec F S512x128 .f32) (v246 : FVec F S512x128 .f32) (v247 : FVec F S512x128 .f32) (v249 : FVec F S512x128 .f32) (v250 : FVec F S512x128 .f32) (v252 : FVec F S512x128 .f32) (v253 : FVec F S512x128 .f32) (v254 : IVec S512x128 1) (v255 : FVec F S512x128 .f32) (v256 : FVec F S512x128 .f32),
      Cand v11 v243 v244 →
      Cand v11 v246 v247 →
      Cand v11 v249 v250 →
      Cand v11 v252 v253 →
      Cand v11 v255 v256 →
      Runs c E arg2 arg3 arg4 x0 x1 P L (k ⟨v243, v244, v246, v247, v249, v250, v252, v253, v254, v255, v256⟩)) :
    Runs c E arg2 arg3 arg4 x0 x1 P L (k0_part12 i arg2 harg2 arg3 harg3 arg4 harg4 v44 v46 v47 v49 v50 v52 v53 v55 v56 v58 v59 v61 v193 v194 v195 v196 >>= k) := by
  rw [k0_part12_eq_skeleton]
  unfold k0_part12_skel
  refine Runs.pure ?_
  have c_v198 : Cand v11 (k0_pay223 v44 v47) (k0_pay224 v44 v46 v47 v49) := Cand.sel (k0_pay222 v44 v47) h_v47 h_v44
  have c_v200 : Cand v11 (k0_pay225 v44 v47) (k0_pay226 v44 v46 v47 v49) := Cand.sel (k0_pay222 v44 v47) h_v44 h_v47
  have c_v203 : Cand v11 (k0_pay228 v44 v47 v193) (select (k0_pay227 v44 v47 v193) (k0_pay224 v44 v46 v47 v49) v194) := Cand.sel (k0_pay227 v44 v47 v193) c_v198 h_v193
  have c_v205 : Cand v11 (k0_pay229 v44 v47 v193) (k0_pay230 v44 v46 v47 v49 v193 v194) := Cand.sel (k0_pay227 v44 v47 v193) h_v193 c_v198
  have c_v208 : Cand v11 (k0_pay232 v44 v47 v195) (k0_pay233 v44 v46 v47 v49 v195 v196) := Cand.sel (k0_pay231 v44 v47 v195) c_v200 h_v195
  have c_v210 : Cand v11 (k0_pay234 v44 v47 v195) (select (k0_pay231 v44 v47 v195) v196 (k0_pay226 v44 v46 v47 v49)) := Cand.sel (k0_pay231 v44 v47 v195) h_v195 c_v200
  have c_v213 : Cand v11 (k0_pay236 v44 v47 v193 v195) (select (k0_pay235 v44 v47 v193 v195) (k0_pay233 v44 v46 v47 v49 v195 v196) (k0_pay230 v44 v46 v47 v49 v193 v194)) := Cand.sel (k0_pay235 v44 v47 v193 v195) c_v208 c_v205
  have c_v215 : Cand v11 (k0_pay237 v44 v47 v193 v195) (select (k0_pay235 v44 v47 v193 v195) (k0_pay230 v44 v46 v47 v49 v193 v194) (k0_pay233 v44 v46 v47 v49 v195 v196)) := Cand.sel (k0_pay235 v44 v47 v193 v195) c_v205 c_v208
  have c_v218 : Cand v11 (k0_pay239 v50 v53) (k0_pay240 v50 v52 v53 v55) := Cand.sel (k0_pay238 v50 v53) h_v53 h_v50
  have c_v220 : Cand v11 (k0_pay241 v50 v53) (k0_pay242 v50 v52 v53 v55) := Cand.sel (k0_pay238 v50 v53) h_v50 h_v53
  have c_v223 : Cand v11 (k0_pay244 v56 v59) (k0_pay245 v56 v58 v59 v61) := Cand.sel (k0_pay243 v56 v59) h_v59 h_v56
  have c_v225 : Cand v11 (k0_pay246 v56 v59) (k0_pay247 v56 v58 v59 v61) := Cand.sel (k0_pay243 v56 v59) h_v56 h_v59
  have c_v228 : Cand v11 (k0_pay249 v50 v53 v56 v59) (select (k0_pay248 v50 v53 v56 v59) (k0_pay245 v56 v58 v59 v61) (k0_pay240 v50 v52 v53 v55)) := Cand.sel (k0_pay248 v50 v53 v56 v59) c_v223 c_v218
  have c_v230 : Cand v11 (k0_pay250 v50 v53 v56 v59) (k0_pay251 v50 v52 v53 v55 v56 v58 v59 v61) := Cand.sel (k0_pay248 v50 v53 v56 v59) c_v218 c_v223
  have c_v233 : Cand v11 (k0_pay253 v50 v53 v56 v59) (k0_pay254 v50 v52 v53 v55 v56 v58 v59 v61) := Cand.sel (k0_pay252 v50 v53 v56 v59) c_v225 c_v220
  have c_v235 : Cand v11 (k0_pay255 v50 v53 v56 v59) (select (k0_pay252 v50 v53 v56 v59) (k0_pay242 v50 v52 v53 v55) (k0_pay247 v56 v58 v59 v61)) := Cand.sel (k0_pay252 v50 v53 v56 v59) c_v220 c_v225
  have c_v238 : Cand v11 (k0_pay257 v50 v53 v56 v59) (select (k0_pay256 v50 v53 v56 v59) (k0_pay254 v50 v52 v53 v55 v56 v58 v59 v61) (k0_pay251 v50 v52 v53 v55 v56 v58 v59 v61)) := Cand.sel (k0_pay256 v50 v53 v56 v59) c_v233 c_v230
  have c_v240 : Cand v11 (k0_pay258 v50 v53 v56 v59) (select (k0_pay256 v50 v53 v56 v59) (k0_pay251 v50 v52 v53 v55 v56 v58 v59 v61) (k0_pay254 v50 v52 v53 v55 v56 v58 v59 v61)) := Cand.sel (k0_pay256 v50 v53 v56 v59) c_v230 c_v233
  have c_v243 : Cand v11 (k0_pay260 v44 v47 v50 v53 v56 v59 v193) (k0_pay261 v44 v46 v47 v49 v50 v52 v53 v55 v56 v58 v59 v61 v193 v194) := Cand.sel (k0_pay259 v44 v47 v50 v53 v56 v59 v193) c_v235 c_v203
  have c_v246 : Cand v11 (k0_pay263 v44 v47 v50 v53 v56 v59 v193 v195) (k0_pay264 v44 v46 v47 v49 v50 v52 v53 v55 v56 v58 v59 v61 v193 v194 v195 v196) := Cand.sel (k0_pay262 v44 v47 v50 v53 v56 v59 v193 v195) c_v240 c_v213
  have c_v249 : Cand v11 (k0_pay266 v44 v47 v50 v53 v56 v59 v193 v195) (k0_pay267 v44 v46 v47 v49 v50 v52 v53 v55 v56 v58 v59 v61 v193 v194 v195 v196) := Cand.sel (k0_pay265 v44 v47 v50 v53 v56 v59 v193 v195) c_v238 c_v215
  have c_v252 : Cand v11 (k0_pay269 v44 v47 v50 v53 v56 v59 v195) (k0_pay270 v44 v46 v47 v49 v50 v52 v53 v55 v56 v58 v59 v61 v195 v196) := Cand.sel (k0_pay268 v44 v47 v50 v53 v56 v59 v195) c_v228 c_v210
  have c_v255 : Cand v11 (k0_pay272 v44 v47 v50 v53 v56 v59 v193 v195) (k0_pay273 v44 v46 v47 v49 v50 v52 v53 v55 v56 v58 v59 v61 v193 v194 v195 v196) := Cand.sel (k0_pay271 v44 v47 v50 v53 v56 v59 v193 v195) c_v249 c_v243
  exact H _ _ _ _ _ _ _ _ _ _ _ c_v243 c_v246 c_v249 c_v252 c_v255

/-- Statements of part 13 of the body. -/
theorem part13 {L : List (SP F)} (v11 : FVec F S512x4096 .f32) (v62 : FVec F S512x128 .f32) (v64 : FVec F S512x128 .f32) (v65 : FVec F S512x128 .f32) (v67 : FVec F S512x128 .f32) (v68 : FVec F S512x128 .f32) (v70 : FVec F S512x128 .f32) (v71 : FVec F S512x128 .f32) (v73 : FVec F S512x128 .f32) (v183 : FVec F S512x128 .f32) (v184 : FVec F S512x128 .f32) (v185 : FVec F S512x128 .f32) (v186 : FVec F S512x128 .f32) (v188 : FVec F S512x128 .f32) (v189 : FVec F S512x128 .f32) (v190 : FVec F S512x128 .f32) (v191 : FVec F S512x128 .f32) (v243 : FVec F S512x128 .f32) (v244 : FVec F S512x128 .f32) (v246 : FVec F S512x128 .f32) (v247 : FVec F S512x128 .f32) (v249 : FVec F S512x128 .f32) (v250 : FVec F S512x128 .f32) (v252 : FVec F S512x128 .f32) (v253 : FVec F S512x128 .f32) (v254 : IVec S512x128 1) (v255 : FVec F S512x128 .f32) (v256 : FVec F S512x128 .f32)
    (h_v62 : Cand v11 v62 v64)
    (h_v65 : Cand v11 v65 v67)
    (h_v68 : Cand v11 v68 v70)
    (h_v71 : Cand v11 v71 v73)
    (h_v183 : Cand v11 v183 v184)
    (h_v185 : Cand v11 v185 v186)
    (h_v188 : Cand v11 v188 v189)
    (h_v190 : Cand v11 v190 v191)
    (h_v243 : Cand v11 v243 v244)
    (h_v246 : Cand v11 v246 v247)
    (h_v249 : Cand v11 v249 v250)
    (h_v252 : Cand v11 v252 v253)
    (h_v255 : Cand v11 v255 v256)
    {k : ((Σ' (v297 : FVec F S512x128 .f32) (v298 : FVec F S512x128 .f32) (v299 : FVec F S512x128 .f32) (v300 : FVec F S512x128 .f32) (v302 : FVec F S512x128 .f32) (v303 : FVec F S512x128 .f32) (v304 : FVec F S512x128 .f32) (v305 : FVec F S512x128 .f32) (v307 : FVec F S512x128 .f32) (v308 : FVec F S512x128 .f32) (v309 : FVec F S512x128 .f32) (v310 : FVec F S512x128 .f32) (v312 : FVec F S512x128 .f32) (v313 : FVec F S512x128 .f32) (v314 : FVec F S512x128 .f32) (v315 : FVec F S512x128 .f32), IVec S512x128 1)) → Prog (TpuEff nD τ sig (Elt F) Λ₀ .tc) PUnit}
    (H : ∀ (v297 : FVec F S512x128 .f32) (v298 : FVec F S512x128 .f32) (v299 : FVec F S512x128 .f32) (v300 : FVec F S512x128 .f32) (v302 : FVec F S512x128 .f32) (v303 : FVec F S512x128 .f32) (v304 : FVec F S512x128 .f32) (v305 : FVec F S512x128 .f32) (v307 : FVec F S512x128 .f32) (v308 : FVec F S512x128 .f32) (v309 : FVec F S512x128 .f32) (v310 : FVec F S512x128 .f32) (v312 : FVec F S512x128 .f32) (v313 : FVec F S512x128 .f32) (v314 : FVec F S512x128 .f32) (v315 : FVec F S512x128 .f32) (v316 : IVec S512x128 1),
      Cand v11 v297 v298 →
      Cand v11 v299 v300 →
      Cand v11 v302 v303 →
      Cand v11 v304 v305 →
      Cand v11 v307 v308 →
      Cand v11 v309 v310 →
      Cand v11 v312 v313 →
      Cand v11 v314 v315 →
      Runs c E arg2 arg3 arg4 x0 x1 P L (k ⟨v297, v298, v299, v300, v302, v303, v304, v305, v307, v308, v309, v310, v312, v313, v314, v315, v316⟩)) :
    Runs c E arg2 arg3 arg4 x0 x1 P L (k0_part13 i arg2 harg2 arg3 harg3 arg4 harg4 v62 v64 v65 v67 v68 v70 v71 v73 v183 v184 v185 v186 v188 v189 v190 v191 v243 v244 v246 v247 v249 v250 v252 v253 v254 v255 v256 >>= k) := by
  rw [k0_part13_eq_skeleton]
  unfold k0_part13_skel
  refine Runs.pure ?_
  have c_v257 : Cand v11 (k0_pay274 v243 v249 v254) (k0_pay275 v244 v250 v254) := Cand.sel v254 h_v243 h_v249
  have c_v260 : Cand v11 (k0_pay277 v246 v252) (k0_pay278 v246 v247 v252 v253) := Cand.sel (k0_pay276 v246 v252) h_v252 h_v246
  have c_v262 : Cand v11 (k0_pay279 v246 v252) (k0_pay280 v246 v247 v252 v253) := Cand.sel (k0_pay276 v246 v252) h_v246 h_v252
  have c_v265 : Cand v11 (k0_pay282 v246 v252 v255) (select (k0_pay281 v246 v252 v255) (k0_pay278 v246 v247 v252 v253) v256) := Cand.sel (k0_pay281 v246 v252 v255) c_v260 h_v255
  have c_v267 : Cand v11 (k0_pay283 v246 v252 v255) (select (k0_pay281 v246 v252 v255) v256 (k0_pay278 v246 v247 v252 v253)) := Cand.sel (k0_pay281 v246 v252 v255) h_v255 c_v260
  have c_v270 : Cand v11 (k0_pay285 v243 v246 v249 v252 v254) (select (k0_pay284 v243 v246 v249 v252 v254) (k0_pay280 v246 v247 v252 v253) (k0_pay275 v244 v250 v254)) := Cand.sel (k0_pay284 v243 v246 v249 v252 v254) c_v262 c_v257
  have c_v272 : Cand v11 (k0_pay286 v243 v246 v249 v252 v254) (select (k0_pay284 v243 v246 v249 v252 v254) (k0_pay275 v244 v250 v254) (k0_pay280 v246 v247 v252 v253)) := Cand.sel (k0_pay284 v243 v246 v249 v252 v254) c_v257 c_v262
  have c_v275 : Cand v11 (k0_pay288 v183 v243 v246 v249 v252 v254) (k0_pay289 v183 v184 v243 v244 v246 v247 v249 v250 v252 v253 v254) := Cand.sel (k0_pay287 v183 v243 v246 v249 v252 v254) c_v272 h_v183
  have c_v278 : Cand v11 (k0_pay291 v185 v243 v246 v249 v252 v254) (k0_pay292 v185 v186 v243 v244 v246 v247 v249 v250 v252 v253 v254) := Cand.sel (k0_pay290 v185 v243 v246 v249 v252 v254) c_v270 h_v185
  have c_v281 : Cand v11 (k0_pay294 v188 v246 v252 v255) (k0_pay295 v188 v189 v246 v247 v252 v253 v255 v256) := Cand.sel (k0_pay293 v188 v246 v252 v255) c_v267 h_v188
  have c_v284 : Cand v11 (k0_pay297 v190 v246 v252 v255) (k0_pay298 v190 v191 v246 v247 v252 v253 v255 v256) := Cand.sel (k0_pay296 v190 v246 v252 v255) c_v265 h_v190
  have c_v287 : Cand v11 (k0_pay300 v183 v188 v243 v246 v249 v252 v254 v255) (k0_pay301 v183 v184 v188 v189 v243 v244 v246 v247 v249 v250 v252 v253 v254 v255 v256) := Cand.sel (k0_pay299 v183 v188 v243 v246 v249 v252 v254 v255) c_v281 c_v275
  have c_v289 : Cand v11 (k0_pay302 v183 v188 v243 v246 v249 v252 v254 v255) (k0_pay303 v183 v184 v188 v189 v243 v244 v246 v247 v249 v250 v252 v253 v254 v255 v256) := Cand.sel (k0_pay299 v183 v188 v243 v246 v249 v252 v254 v255) c_v275 c_v281
  have c_v292 : Cand v11 (k0_pay305 v185 v190 v243 v246 v249 v252 v254 v255) (k0_pay306 v185 v186 v190 v191 v243 v244 v246 v247 v249 v250 v252 v253 v254 v255 v256) := Cand.sel (k0_pay304 v185 v190 v243 v246 v249 v252 v254 v255) c_v284 c_v278
  have c_v294 : Cand v11 (k0_pay307 v185 v190 v243 v246 v249 v252 v254 v255) (k0_pay308 v185 v186 v190 v191 v243 v244 v246 v247 v249 v250 v252 v253 v254 v255 v256) := Cand.sel (k0_pay304 v185 v190 v243 v246 v249 v252 v254 v255) c_v278 c_v284
  have c_v297 : Cand v11 (k0_pay310 v183 v185 v188 v190 v243 v246 v249 v252 v254 v255) (k0_pay311 v183 v184 v185 v186 v188 v189 v190 v191 v243 v244 v246 v247 v249 v250 v252 v253 v254 v255 v256) := Cand.sel (k0_pay309 v183 v185 v188 v190 v243 v246 v249 v252 v254 v255) c_v292 c_v287
  have c_v299 : Cand v11 (k0_pay312 v183 v185 v188 v190 v243 v246 v249 v252 v254 v255) (k0_pay313 v183 v184 v185 v186 v188 v189 v190 v191 v243 v244 v246 v247 v249 v250 v252 v253 v254 v255 v256) := Cand.sel (k0_pay309 v183 v185 v188 v190 v243 v246 v249 v252 v254 v255) c_v287 c_v292
  have c_v302 : Cand v11 (k0_pay315 v183 v185 v188 v190 v243 v246 v249 v252 v254 v255) (k0_pay316 v183 v184 v185 v186 v188 v189 v190 v191 v243 v244 v246 v247 v249 v250 v252 v253 v254 v255 v256) := Cand.sel (k0_pay314 v183 v185 v188 v190 v243 v246 v249 v252 v254 v255) c_v294 c_v289
  have c_v304 : Cand v11 (k0_pay317 v183 v185 v188 v190 v243 v246 v249 v252 v254 v255) (k0_pay318 v183 v184 v185 v186 v188 v189 v190 v191 v243 v244 v246 v247 v249 v250 v252 v253 v254 v255 v256) := Cand.sel (k0_pay314 v183 v185 v188 v190 v243 v246 v249 v252 v254 v255) c_v289 c_v294
  have c_v307 : Cand v11 (k0_pay320 v62 v65) (k0_pay321 v62 v64 v65 v67) := Cand.sel (k0_pay319 v62 v65) h_v65 h_v62
  have c_v309 : Cand v11 (k0_pay322 v62 v65) (k0_pay323 v62 v64 v65 v67) := Cand.sel (k0_pay319 v62 v65) h_v62 h_v65
  have c_v312 : Cand v11 (k0_pay325 v68 v71) (k0_pay326 v68 v70 v71 v73) := Cand.sel (k0_pay324 v68 v71) h_v71 h_v68
  have c_v314 : Cand v11 (k0_pay327 v68 v71) (k0_pay328 v68 v70 v71 v73) := Cand.sel (k0_pay324 v68 v71) h_v68 h_v71
  exact H _ _ _ _ _ _ _ _ _ _ _ _ _ _ _ _ _ c_v297 c_v299 c_v302 c_v304 c_v307 c_v309 c_v312 c_v314

/-- Statements of part 14 of the body. -/
theorem part14 {L : List (SP F)} (v11 : FVec F S512x4096 .f32) (v74 : FVec F S512x128 .f32) (v76 : FVec F S512x128 .f32) (v77 : FVec F S512x128 .f32) (v79 : FVec F S512x128 .f32) (v80 : FVec F S512x128 .f32) (v82 : FVec F S512x128 .f32) (v83 : FVec F S512x128 .f32) (v85 : FVec F S512x128 .f32) (v307 : FVec F S512x128 .f32) (v308 : FVec F S512x128 .f32) (v309 : FVec F S512x128 .f32) (v310 : FVec F S512x128 .f32) (v312 : FVec F S512x128 .f32) (v313 : FVec F S512x128 .f32) (v314 : FVec F S512x128 .f32) (v315 : FVec F S512x128 .f32) (v316 : IVec S512x128 1)
    (h_v74 : Cand v11 v74 v76)
    (h_v77 : Cand v11 v77 v79)
    (h_v80 : Cand v11 v80 v82)
    (h_v83 : Cand v11 v83 v85)
    (h_v307 : Cand v11 v307 v308)
    (h_v309 : Cand v11 v309 v310)
    (h_v312 : Cand v11 v312 v313)
    (h_v314 : Cand v11 v314 v315)
    {k : ((Σ' (v361 : FVec F S512x128 .f32) (v367 : FVec F S512x128 .f32) (v369 : FVec F S512x128 .f32) (v370 : FVec F S512x128 .f32) (v371 : FVec F S512x128 .f32) (v372 : FVec F S512x128 .f32) (v373 : IVec S512x128 1) (v374 : FVec F S512x128 .f32) (v375 : FVec F S512x128 .f32), FVec F S512x128 .f32)) → Prog (TpuEff nD τ sig (Elt F) Λ₀ .tc) PUnit}
    (H : ∀ (v361 : FVec F S512x128 .f32) (v367 : FVec F S512x128 .f32) (v369 : FVec F S512x128 .f32) (v370 : FVec F S512x128 .f32) (v371 : FVec F S512x128 .f32) (v372 : FVec F S512x128 .f32) (v373 : IVec S512x128 1) (v374 : FVec F S512x128 .f32) (v375 : FVec F S512x128 .f32) (v376 : FVec F S512x128 .f32),
      Cand v11 v369 v370 →
      Cand v11 v371 v372 →
      Cand v11 v374 v375 →
      Half v11 v376 v373 v361 v367 →
      Runs c E arg2 arg3 arg4 x0 x1 P L (k ⟨v361, v367, v369, v370, v371, v372, v373, v374, v375, v376⟩)) :
    Runs c E arg2 arg3 arg4 x0 x1 P L (k0_part14 i arg2 harg2 arg3 harg3 arg4 harg4 v74 v76 v77 v79 v80 v82 v83 v85 v307 v308 v309 v310 v312 v313 v314 v315 v316 >>= k) := by
  rw [k0_part14_eq_skeleton]
  unfold k0_part14_skel
  refine Runs.pure ?_
  have c_v317 : Cand v11 (k0_pay330 v307 v312 v316) (select v316 v313 v308) := Cand.sel v316 h_v312 h_v307
  have c_v319 : Cand v11 (k0_pay331 v307 v312 v316) (k0_pay332 v308 v313 v316) := Cand.sel v316 h_v307 h_v312
  have c_v322 : Cand v11 (k0_pay334 v309 v314) (k0_pay335 v309 v310 v314 v315) := Cand.sel (k0_pay333 v309 v314) h_v314 h_v309
  have c_v324 : Cand v11 (k0_pay336 v309 v314) (select (k0_pay333 v309 v314) v310 v315) := Cand.sel (k0_pay333 v309 v314) h_v309 h_v314
  have c_v327 : Cand v11 (k0_pay338 v307 v309 v312 v314 v316) (select (k0_pay337 v307 v309 v312 v314 v316) (k0_pay335 v309 v310 v314 v315) (k0_pay332 v308 v313 v316)) := Cand.sel (k0_pay337 v307 v309 v312 v314 v316) c_v322 c_v319
  have c_v329 : Cand v11 (k0_pay339 v307 v309 v312 v314 v316) (select (k0_pay337 v307 v309 v312 v314 v316) (k0_pay332 v308 v313 v316) (k0_pay335 v309 v310 v314 v315)) := Cand.sel (k0_pay337 v307 v309 v312 v314 v316) c_v319 c_v322
  have c_v332 : Cand v11 (k0_pay341 v74 v77) (k0_pay342 v74 v76 v77 v79) := Cand.sel (k0_pay340 v74 v77) h_v77 h_v74
  have c_v334 : Cand v11 (k0_pay343 v74 v77) (k0_pay344 v74 v76 v77 v79) := Cand.sel (k0_pay340 v74 v77) h_v74 h_v77
  have c_v337 : Cand v11 (k0_pay346 v80 v83) (k0_pay347 v80 v82 v83 v85) := Cand.sel (k0_pay345 v80 v83) h_v83 h_v80
  have c_v339 : Cand v11 (k0_pay348 v80 v83) (k0_pay349 v80 v82 v83 v85) := Cand.sel (k0_pay345 v80 v83) h_v80 h_v83
  have c_v342 : Cand v11 (k0_pay351 v74 v77 v80 v83) (select (k0_pay350 v74 v77 v80 v83) (k0_pay347 v80 v82 v83 v85) (k0_pay342 v74 v76 v77 v79)) := Cand.sel (k0_pay350 v74 v77 v80 v83) c_v337 c_v332
  have c_v344 : Cand v11 (k0_pay352 v74 v77 v80 v83) (k0_pay353 v74 v76 v77 v79 v80 v82 v83 v85) := Cand.sel (k0_pay350 v74 v77 v80 v83) c_v332 c_v337
  have c_v347 : Cand v11 (k0_pay355 v74 v77 v80 v83) (k0_pay356 v74 v76 v77 v79 v80 v82 v83 v85) := Cand.sel (k0_pay354 v74 v77 v80 v83) c_v339 c_v334
  have c_v349 : Cand v11 (k0_pay357 v74 v77 v80 v83) (select (k0_pay354 v74 v77 v80 v83) (k0_pay344 v74 v76 v77 v79) (k0_pay349 v80 v82 v83 v85)) := Cand.sel (k0_pay354 v74 v77 v80 v83) c_v334 c_v339
  have c_v352 : Cand v11 (k0_pay359 v74 v77 v80 v83) (select (k0_pay358 v74 v77 v80 v83) (k0_pay356 v74 v76 v77 v79 v80 v82 v83 v85) (k0_pay353 v74 v76 v77 v79 v80 v82 v83 v85)) := Cand.sel (k0_pay358 v74 v77 v80 v83) c_v347 c_v344
  have c_v354 : Cand v11 (k0_pay360 v74 v77 v80 v83) (select (k0_pay358 v74 v77 v80 v83) (k0_pay353 v74 v76 v77 v79 v80 v82 v83 v85) (k0_pay356 v74 v76 v77 v79 v80 v82 v83 v85)) := Cand.sel (k0_pay358 v74 v77 v80 v83) c_v344 c_v347
  have c_v357 : Cand v11 (k0_pay362 v74 v77 v80 v83 v307 v312 v316) (k0_pay363 v74 v76 v77 v79 v80 v82 v83 v85 v307 v308 v312 v313 v316) := Cand.sel (k0_pay361 v74 v77 v80 v83 v307 v312 v316) c_v349 c_v317
  have c_v360 : Cand v11 (k0_pay365 v74 v77 v80 v83 v307 v309 v312 v314 v316) (k0_pay366 v74 v76 v77 v79 v80 v82 v83 v85 v307 v308 v309 v310 v312 v313 v314 v315 v316) := Cand.sel (k0_pay364 v74 v77 v80 v83 v307 v309 v312 v314 v316) c_v354 c_v327
  have c_v363 : Cand v11 (k0_pay368 v74 v77 v80 v83 v307 v309 v312 v314 v316) (k0_pay369 v74 v76 v77 v79 v80 v82 v83 v85 v307 v308 v309 v310 v312 v313 v314 v315 v316) := Cand.sel (k0_pay367 v74 v77 v80 v83 v307 v309 v312 v314 v316) c_v352 c_v329
  have c_v366 : Cand v11 (k0_pay371 v74 v77 v80 v83 v309 v314) (k0_pay372 v74 v76 v77 v79 v80 v82 v83 v85 v309 v310 v314 v315) := Cand.sel (k0_pay370 v74 v77 v80 v83 v309 v314) c_v342 c_v324
  have c_v369 : Cand v11 (k0_pay374 v74 v77 v80 v83 v307 v309 v312 v314 v316) (k0_pay375 v74 v76 v77 v79 v80 v82 v83 v85 v307 v308 v309 v310 v312 v313 v314 v315 v316) := Cand.sel (k0_pay373 v74 v77 v80 v83 v307 v309 v312 v314 v316) c_v363 c_v357
  have c_v371 : Cand v11 (k0_pay376 v74 v77 v80 v83 v307 v309 v312 v314 v316) (k0_pay377 v74 v76 v77 v79 v80 v82 v83 v85 v307 v308 v309 v310 v312 v313 v314 v315 v316) := Cand.sel (k0_pay373 v74 v77 v80 v83 v307 v309 v312 v314 v316) c_v357 c_v363
  have c_v374 : Cand v11 (k0_pay379 v74 v77 v80 v83 v307 v309 v312 v314 v316) (k0_pay380 v74 v76 v77 v79 v80 v82 v83 v85 v307 v308 v309 v310 v312 v313 v314 v315 v316) := Cand.sel (k0_pay378 v74 v77 v80 v83 v307 v309 v312 v314 v316) c_v366 c_v360
  exact H _ _ _ _ _ _ _ _ _ _ c_v369 c_v371 c_v374 ⟨_, _, rfl, c_v360, c_v366⟩

/-- Statements of part 15 of the body. -/
theorem part15 {L : List (SP F)} (v11 : FVec F S512x4096 .f32) (v86 : FVec F S512x128 .f32) (v88 : FVec F S512x128 .f32) (v89 : FVec F S512x128 .f32) (v91 : FVec F S512x128 .f32) (v92 : FVec F S512x128 .f32) (v94 : FVec F S512x128 .f32) (v95 : FVec F S512x128 .f32) (v97 : FVec F S512x128 .f32) (v98 : FVec F S512x128 .f32) (v100 : FVec F S512x128 .f32) (v101 : FVec F S512x128 .f32) (v103 : FVec F S512x128 .f32) (v104 : FVec F S512x128 .f32) (v106 : FVec F S512x128 .f32) (v107 : FVec F S512x128 .f32) (v109 : FVec F S512x128 .f32) (v361 : FVec F S512x128 .f32) (v367 : FVec F S512x128 .f32) (v369 : FVec F S512x128 .f32) (v370 : FVec F S512x128 .f32) (v371 : FVec F S512x128 .f32) (v372 : FVec F S512x128 .f32) (v373 : IVec S512x128 1) (v374 : FVec F S512x128 .f32) (v375 : FVec F S512x128 .f32) (v376 : FVec F S512x128 .f32)
    (h_v86 : Cand v11 v86 v88)
    (h_v89 : Cand v11 v89 v91)
    (h_v92 : Cand v11 v92 v94)
    (h_v95 : Cand v11 v95 v97)
    (h_v98 : Cand v11 v98 v100)
    (h_v101 : Cand v11 v101 v103)
    (h_v104 : Cand v11 v104 v106)
    (h_v107 : Cand v11 v107 v109)
    (h_v369 : Cand v11 v369 v370)
    (h_v371 : Cand v11 v371 v372)
    (h_v374 : Cand v11 v374 v375)
    (h_v376 : Half v11 v376 v373 v361 v367)
    {k : ((Σ' (v379 : FVec F S512x128 .f32) (v380 : FVec F S512x128 .f32) (v381 : FVec F S512x128 .f32) (v382 : FVec F S512x128 .f32) (v384 : FVec F S512x128 .f32) (v385 : FVec F S512x128 .f32) (v386 : FVec F S512x128 .f32) (v387 : FVec F S512x128 .f32) (v399 : FVec F S512x128 .f32) (v400 : FVec F S512x128 .f32) (v406 : FVec F S512x128 .f32) (v407 : FVec F S512x128 .f32) (v409 : FVec F S512x128 .f32) (v410 : FVec F S512x128 .f32) (v411 : FVec F S512x128 .f32) (v412 : FVec F S512x128 .f32) (v424 : FVec F S512x128 .f32) (v425 : FVec F S512x128 .f32) (v427 : FVec F S512x128 .f32) (v430 : FVec F S512x128 .f32) (v431 : FVec F S512x128 .f32) (v432 : FVec F S512x128 .f32) (v433 : IVec S512x128 1) (v434 : FVec F S512x128 .f32) (v435 : FVec F S512x128 .f32), FVec F S512x128 .f32)) → Prog (TpuEff nD τ sig (Elt F) Λ₀ .tc) PUnit}
    (H : ∀ (v379 : FVec F S512x128 .f32) (v380 : FVec F S512x128 .f32) (v381 : FVec F S512x128 .f32) (v382 : FVec F S512x128 .f32) (v384 : FVec F S512x128 .f32) (v385 : FVec F S512x128 .f32) (v386 : FVec F S512x128 .f32) (v387 : FVec F S512x128 .f32) (v399 : FVec F S512x128 .f32) (v400 : FVec F S512x128 .f32) (v406 : FVec F S512x128 .f32) (v407 : FVec F S512x128 .f32) (v409 : FVec F S512x128 .f32) (v410 : FVec F S512x128 .f32) (v411 : FVec F S512x128 .f32) (v412 : FVec F S512x128 .f32) (v424 : FVec F S512x128 .f32) (v425 : FVec F S512x128 .f32) (v427 : FVec F S512x128 .f32) (v430 : FVec F S512x128 .f32) (v431 : FVec F S512x128 .f32) (v432 : FVec F S512x128 .f32) (v433 : IVec S512x128 1) (v434 : FVec F S512x128 .f32) (v435 : FVec F S512x128 .f32) (v436 : FVec F S512x128 .f32),
      Cand v11 v379 v380 →
      Cand v11 v381 v382 →
      Cand v11 v384 v385 →
      Cand v11 v386 v387 →
      Cand v11 v399 v400 →
      Cand v11 v406 v407 →
      Cand v11 v409 v410 →
      Cand v11 v411 v412 →
      Cand v11 v424 v425 →
      Cand v11 v431 v432 →
      Cand v11 v434 v435 →
      Half v11 v436 v433 v427 v430 →
      Runs c E arg2 arg3 arg4 x0 x1 P L (k ⟨v379, v380, v381, v382, v384, v385, v386, v387, v399, v400, v406, v407, v409, v410, v411, v412, v424, v425, v427, v430, v431, v432, v433, v434, v435, v436⟩)) :
    Runs c E arg2 arg3 arg4 x0 x1 P L (k0_part15 i arg2 harg2 arg3 harg3 arg4 harg4 v86 v88 v89 v91 v92 v94 v95 v97 v98 v100 v101 v103 v104 v106 v107 v109 v361 v367 v369 v370 v371 v372 v373 v374 v375 v376 >>= k) := by
  rw [k0_part15_eq_skeleton]
  unfold k0_part15_skel
  refine Runs.pure ?_
  have c_v376 : Cand v11 v376 (k0_pay382 v361 v367 v373) := h_v376.col
  have c_v379 : Cand v11 (k0_pay384 v369 v374) (k0_pay385 v369 v370 v374 v375) := Cand.sel (k0_pay383 v369 v374) h_v374 h_v369
  have c_v381 : Cand v11 (k0_pay386 v369 v374) (k0_pay387 v369 v370 v374 v375) := Cand.sel (k0_pay383 v369 v374) h_v369 h_v374
  have c_v384 : Cand v11 (k0_pay389 v371 v376) (k0_pay390 v361 v367 v371 v372 v373 v376) := Cand.sel (k0_pay388 v371 v376) c_v376 h_v371
  have c_v386 : Cand v11 (k0_pay391 v371 v376) (k0_pay392 v361 v367 v371 v372 v373 v376) := Cand.sel (k0_pay388 v371 v376) h_v371 c_v376
  have c_v389 : Cand v11 (k0_pay394 v86 v89) (k0_pay395 v86 v88 v89 v91) := Cand.sel (k0_pay393 v86 v89) h_v89 h_v86
  have c_v391 : Cand v11 (k0_pay396 v86 v89) (k0_pay397 v86 v88 v89 v91) := Cand.sel (k0_pay393 v86 v89) h_v86 h_v89
  have c_v394 : Cand v11 (k0_pay399 v92 v95) (k0_pay400 v92 v94 v95 v97) := Cand.sel (k0_pay398 v92 v95) h_v95 h_v92
  have c_v396 : Cand v11 (k0_pay401 v92 v95) (k0_pay402 v92 v94 v95 v97) := Cand.sel (k0_pay398 v92 v95) h_v92 h_v95
  have c_v399 : Cand v11 (k0_pay404 v86 v89 v92 v95) (k0_pay405 v86 v88 v89 v91 v92 v94 v95 v97) := Cand.sel (k0_pay403 v86 v89 v92 v95) c_v394 c_v389
  have c_v401 : Cand v11 (k0_pay406 v86 v89 v92 v95) (k0_pay407 v86 v88 v89 v91 v92 v94 v95 v97) := Cand.sel (k0_pay403 v86 v89 v92 v95) c_v389 c_v394
  have c_v404 : Cand v11 (k0_pay409 v86 v89 v92 v95) (k0_pay410 v86 v88 v89 v91 v92 v94 v95 v97) := Cand.sel (k0_pay408 v86 v89 v92 v95) c_v396 c_v391
  have c_v406 : Cand v11 (k0_pay411 v86 v89 v92 v95) (k0_pay412 v86 v88 v89 v91 v92 v94 v95 v97) := Cand.sel (k0_pay408 v86 v89 v92 v95) c_v391 c_v396
  have c_v409 : Cand v11 (k0_pay414 v86 v89 v92 v95) (k0_pay415 v86 v88 v89 v91 v92 v94 v95 v97) := Cand.sel (k0_pay413 v86 v89 v92 v95) c_v404 c_v401
  have c_v411 : Cand v11 (k0_pay416 v86 v89 v92 v95) (k0_pay417 v86 v88 v89 v91 v92 v94 v95 v97) := Cand.sel (k0_pay413 v86 v89 v92 v95) c_v401 c_v404
  have c_v414 : Cand v11 (k0_pay419 v98 v101) (k0_pay420 v98 v100 v101 v103) := Cand.sel (k0_pay418 v98 v101) h_v101 h_v98
  have c_v416 : Cand v11 (k0_pay421 v98 v101) (k0_pay422 v98 v100 v101 v103) := Cand.sel (k0_pay418 v98 v101) h_v98 h_v101
  have c_v419 : Cand v11 (k0_pay424 v104 v107) (k0_pay425 v104 v106 v107 v109) := Cand.sel (k0_pay423 v104 v107) h_v107 h_v104
  have c_v421 : Cand v11 (k0_pay426 v104 v107) (k0_pay427 v104 v106 v107 v109) := Cand.sel (k0_pay423 v104 v107) h_v104 h_v107
  have c_v424 : Cand v11 (k0_pay429 v98 v101 v104 v107) (k0_pay430 v98 v100 v101 v103 v104 v106 v107 v109) := Cand.sel (k0_pay428 v98 v101 v104 v107) c_v419 c_v414
  have c_v426 : Cand v11 (k0_pay431 v98 v101 v104 v107) (k0_pay432 v98 v100 v101 v103 v104 v106 v107 v109) := Cand.sel (k0_pay428 v98 v101 v104 v107) c_v414 c_v419
  have c_v429 : Cand v11 (k0_pay434 v98 v101 v104 v107) (k0_pay435 v98 v100 v101 v103 v104 v106 v107 v109) := Cand.sel (k0_pay433 v98 v101 v104 v107) c_v421 c_v416
  have c_v431 : Cand v11 (k0_pay436 v98 v101 v104 v107) (k0_pay437 v98 v100 v101 v103 v104 v106 v107 v109) := Cand.sel (k0_pay433 v98 v101 v104 v107) c_v416 c_v421
  have c_v434 : Cand v11 (k0_pay439 v98 v101 v104 v107) (k0_pay440 v98 v100 v101 v103 v104 v106 v107 v109) := Cand.sel (k0_pay438 v98 v101 v104 v107) c_v429 c_v426
  exact H _ _ _ _ _ _ _ _ _ _ _ _ _ _ _ _ _ _ _ _ _ _ _ _ _ _ c_v379 c_v381 c_v384 c_v386 c_v399 c_v406 c_v409 c_v411 c_v424 c_v431 c_v434 ⟨_, _, rfl, c_v426, c_v429⟩

/-- Statements of part 16 of the body. -/
theorem part16 {L : List (SP F)} (v11 : FVec F S512x4096 .f32) (v379 : FVec F S512x128 .f32) (v380 : FVec F S512x128 .f32) (v381 : FVec F S512x128 .f32) (v382 : FVec F S512x128 .f32) (v384 : FVec F S512x128 .f32) (v385 : FVec F S512x128 .f32) (v386 : FVec F S512x128 .f32) (v387 : FVec F S512x128 .f32) (v399 : FVec F S512x128 .f32) (v400 : FVec F S512x128 .f32) (v406 : FVec F S512x128 .f32) (v407 : FVec F S512x128 .f32) (v409 : FVec F S512x128 .f32) (v410 : FVec F S512x128 .f32) (v411 : FVec F S512x128 .f32) (v412 : FVec F S512x128 .f32) (v424 : FVec F S512x128 .f32) (v425 : FVec F S512x128 .f32) (v427 : FVec F S512x128 .f32) (v430 : FVec F S512x128 .f32) (v431 : FVec F S512x128 .f32) (v432 : FVec F S512x128 .f32) (v433 : IVec S512x128 1) (v434 : FVec F S512x128 .f32) (v435 : FVec F S512x128 .f32) (v436 : FVec F S512x128 .f32)
    (h_v379 : Cand v11 v379 v380)
    (h_v381 : Cand v11 v381 v382)
    (h_v384 : Cand v11 v384 v385)
    (h_v386 : Cand v11 v386 v387)
    (h_v399 : Cand v11 v399 v400)
    (h_v406 : Cand v11 v406 v407)
    (h_v409 : Cand v11 v409 v410)
    (h_v411 : Cand v11 v411 v412)
    (h_v424 : Cand v11 v424 v425)
    (h_v431 : Cand v11 v431 v432)
    (h_v434 : Cand v11 v434 v435)
    (h_v436 : Half v11 v436 v433 v427 v430)
    {k : ((Σ' (v485 : FVec F S512x128 .f32) (v486 : FVec F S512x128 .f32) (v490 : FVec F S512x128 .f32) (v491 : FVec F S512x128 .f32) (v493 : FVec F S512x128 .f32) (v494 : FVec F S512x128 .f32) (v495 : FVec F S512x128 .f32), FVec F S512x128 .f32)) → Prog (TpuEff nD τ sig (Elt F) Λ₀ .tc) PUnit}
    (H : ∀ (v485 : FVec F S512x128 .f32) (v486 : FVec F S512x128 .f32) (v490 : FVec F S512x128 .f32) (v491 : FVec F S512x128 .f32) (v493 : FVec F S512x128 .f32) (v494 : FVec F S512x128 .f32) (v495 : FVec F S512x128 .f32) (v496 : FVec F S512x128 .f32),
      Cand v11 v485 v486 →
      Cand v11 v490 v491 →
      Cand v11 v493 v494 →
      Cand v11 v495 v496 →
      Runs c E arg2 arg3 arg4 x0 x1 P L (k ⟨v485, v486, v490, v491, v493, v494, v495, v496⟩)) :
    Runs c E arg2 arg3 arg4 x0 x1 P L (k0_part16 i arg2 harg2 arg3 harg3 arg4 harg4 v379 v380 v381 v382 v384 v385 v386 v387 v399 v400 v406 v407 v409 v410 v411 v412 v424 v425 v427 v430 v431 v432 v433 v434 v435 v436 >>= k) := by
  rw [k0_part16_eq_skeleton]
  unfold k0_part16_skel
  refine Runs.pure ?_
  have c_v436 : Cand v11 v436 (select v433 v427 v430) := h_v436.col
  have c_v439 : Cand v11 (k0_pay443 v399 v431) (k0_pay444 v399 v400 v431 v432) := Cand.sel (k0_pay442 v399 v431) h_v431 h_v399
  have c_v442 : Cand v11 (k0_pay446 v409 v436) (k0_pay447 v409 v410 v427 v430 v433 v436) := Cand.sel (k0_pay445 v409 v436) c_v436 h_v409
  have c_v445 : Cand v11 (k0_pay449 v411 v434) (k0_pay450 v411 v412 v434 v435) := Cand.sel (k0_pay448 v411 v434) h_v434 h_v411
  have c_v448 : Cand v11 (k0_pay452 v406 v424) (k0_pay453 v406 v407 v424 v425) := Cand.sel (k0_pay451 v406 v424) h_v424 h_v406
  have c_v451 : Cand v11 (k0_pay455 v399 v411 v431 v434) (k0_pay456 v399 v400 v411 v412 v431 v432 v434 v435) := Cand.sel (k0_pay454 v399 v411 v431 v434) c_v445 c_v439
  have c_v453 : Cand v11 (k0_pay457 v399 v411 v431 v434) (k0_pay458 v399 v400 v411 v412 v431 v432 v434 v435) := Cand.sel (k0_pay454 v399 v411 v431 v434) c_v439 c_v445
  have c_v456 : Cand v11 (k0_pay460 v406 v409 v424 v436) (k0_pay461 v406 v407 v409 v410 v424 v425 v427 v430 v433 v436) := Cand.sel (k0_pay459 v406 v409 v424 v436) c_v448 c_v442
  have c_v458 : Cand v11 (k0_pay462 v406 v409 v424 v436) (k0_pay463 v406 v407 v409 v410 v424 v425 v427 v430 v433 v436) := Cand.sel (k0_pay459 v406 v409 v424 v436) c_v442 c_v448
  have c_v461 : Cand v11 (k0_pay465 v399 v406 v409 v411 v424 v431 v434 v436) (select (k0_pay464 v399 v406 v409 v411 v424 v431 v434 v436) (k0_pay461 v406 v407 v409 v410 v424 v425 v427 v430 v433 v436) (k0_pay456 v399 v400 v411 v412 v431 v432 v434 v435)) := Cand.sel (k0_pay464 v399 v406 v409 v411 v424 v431 v434 v436) c_v456 c_v451
  have c_v463 : Cand v11 (k0_pay466 v399 v406 v409 v411 v424 v431 v434 v436) (select (k0_pay464 v399 v406 v409 v411 v424 v431 v434 v436) (k0_pay456 v399 v400 v411 v412 v431 v432 v434 v435) (k0_pay461 v406 v407 v409 v410 v424 v425 v427 v430 v433 v436)) := Cand.sel (k0_pay464 v399 v406 v409 v411 v424 v431 v434 v436) c_v451 c_v456
  have c_v466 : Cand v11 (k0_pay468 v399 v406 v409 v411 v424 v431 v434 v436) (select (k0_pay467 v399 v406 v409 v411 v424 v431 v434 v436) (k0_pay463 v406 v407 v409 v410 v424 v425 v427 v430 v433 v436) (k0_pay458 v399 v400 v411 v412 v431 v432 v434 v435)) := Cand.sel (k0_pay467 v399 v406 v409 v411 v424 v431 v434 v436) c_v458 c_v453
  have c_v468 : Cand v11 (k0_pay469 v399 v406 v409 v411 v424 v431 v434 v436) (select (k0_pay467 v399 v406 v409 v411 v424 v431 v434 v436) (k0_pay458 v399 v400 v411 v412 v431 v432 v434 v435) (k0_pay463 v406 v407 v409 v410 v424 v425 v427 v430 v433 v436)) := Cand.sel (k0_pay467 v399 v406 v409 v411 v424 v431 v434 v436) c_v453 c_v458
  have c_v471 : Cand v11 (k0_pay471 v379 v399 v406 v409 v411 v424 v431 v434 v436) (k0_pay472 v379 v380 v399 v400 v406 v407 v409 v410 v411 v412 v424 v425 v427 v430 v431 v432 v433 v434 v435 v436) := Cand.sel (k0_pay470 v379 v399 v406 v409 v411 v424 v431 v434 v436) c_v468 h_v379
  have c_v474 : Cand v11 (k0_pay474 v381 v399 v406 v409 v411 v424 v431 v434 v436) (k0_pay475 v381 v382 v399 v400 v406 v407 v409 v410 v411 v412 v424 v425 v427 v430 v431 v432 v433 v434 v435 v436) := Cand.sel (k0_pay473 v381 v399 v406 v409 v411 v424 v431 v434 v436) c_v466 h_v381
  have c_v477 : Cand v11 (k0_pay477 v384 v399 v406 v409 v411 v424 v431 v434 v436) (k0_pay478 v384 v385 v399 v400 v406 v407 v409 v410 v411 v412 v424 v425 v427 v430 v431 v432 v433 v434 v435 v436) := Cand.sel (k0_pay476 v384 v399 v406 v409 v411 v424 v431 v434 v436) c_v463 h_v384
  have c_v480 : Cand v11 (k0_pay480 v386 v399 v406 v409 v411 v424 v431 v434 v436) (k0_pay481 v386 v387 v399 v400 v406 v407 v409 v410 v411 v412 v424 v425 v427 v430 v431 v432 v433 v434 v435 v436) := Cand.sel (k0_pay479 v386 v399 v406 v409 v411 v424 v431 v434 v436) c_v461 h_v386
  have c_v483 : Cand v11 (k0_pay483 v379 v384 v399 v406 v409 v411 v424 v431 v434 v436) (k0_pay484 v379 v380 v384 v385 v399 v400 v406 v407 v409 v410 v411 v412 v424 v425 v427 v430 v431 v432 v433 v434 v435 v436) := Cand.sel (k0_pay482 v379 v384 v399 v406 v409 v411 v424 v431 v434 v436) c_v477 c_v471
  have c_v485 : Cand v11 (k0_pay485 v379 v384 v399 v406 v409 v411 v424 v431 v434 v436) (k0_pay486 v379 v380 v384 v385 v399 v400 v406 v407 v409 v410 v411 v412 v424 v425 v427 v430 v431 v432 v433 v434 v435 v436) := Cand.sel (k0_pay482 v379 v384 v399 v406 v409 v411 v424 v431 v434 v436) c_v471 c_v477
  have c_v488 : Cand v11 (k0_pay488 v381 v386 v399 v406 v409 v411 v424 v431 v434 v436) (k0_pay489 v381 v382 v386 v387 v399 v400 v406 v407 v409 v410 v411 v412 v424 v425 v427 v430 v431 v432 v433 v434 v435 v436) := Cand.sel (k0_pay487 v381 v386 v399 v406 v409 v411 v424 v431 v434 v436) c_v480 c_v474
  have c_v490 : Cand v11 (k0_pay490 v381 v386 v399 v406 v409 v411 v424 v431 v434 v436) (k0_pay491 v381 v382 v386 v387 v399 v400 v406 v407 v409 v410 v411 v412 v424 v425 v427 v430 v431 v432 v433 v434 v435 v436) := Cand.sel (k0_pay487 v381 v386 v399 v406 v409 v411 v424 v431 v434 v436) c_v474 c_v480
  have c_v493 : Cand v11 (k0_pay493 v379 v381 v384 v386 v399 v406 v409 v411 v424 v431 v434 v436) (k0_pay494 v379 v380 v381 v382 v384 v385 v386 v387 v399 v400 v406 v407 v409 v410 v411 v412 v424 v425 v427 v430 v431 v432 v433 v434 v435 v436) := Cand.sel (k0_pay492 v379 v381 v384 v386 v399 v406 v409 v411 v424 v431 v434 v436) c_v488 c_v483
  have c_v495 : Cand v11 (k0_pay495 v379 v381 v384 v386 v399 v406 v409 v411 v424 v431 v434 v436) (k0_pay496 v379 v380 v381 v382 v384 v385 v386 v387 v399 v400 v406 v407 v409 v410 v411 v412 v424 v425 v427 v430 v431 v432 v433 v434 v435 v436) := Cand.sel (k0_pay492 v379 v381 v384 v386 v399 v406 v409 v411 v424 v431 v434 v436) c_v483 c_v488
  exact H _ _ _ _ _ _ _ _ c_v485 c_v490 c_v493 c_v495

end Run

end Cert.Proof.KnnIdeal

end
-- ==== Proof.ExtIdeal.lean ====
module

public import proofs.«01_k».proof.Proof.NetIdeal
public import Idealize.ShloMosaic.Lib.Claim
public import Idealize.ShloMosaic.Lib.PointwiseCore

@[expose] public section

set_option maxRecDepth 16384

noncomputable section

namespace Cert.Proof.KnnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable {c : Dev nD} {E : Set ℕ} {i : grid0.Coords} {arg2 : Memref sig .tc .vmem S1x256x4096 .f32} {harg2 : arg2.IsWhole} {arg3 : Memref sig .tc .vmem S1x256x512 .f32} {harg3 : arg3.IsWhole} {arg4 : Memref sig .tc .vmem S1x16x512 .i32} {harg4 : arg4.IsWhole}
  {x0 : Vec F S1x256x4096 .f32} {x1 : Vec F S1x256x512 .f32} {P : Vec F S1x16x512 .i32 → Prop}

theorem Runs.storeRow {L : List (SP F)} {n : ℕ} {h} {w w' : IVec S1x1x512 32} {hx hm} {k : Prog (TpuEff nD τ sig (Elt F) Λ₀ .tc) PUnit}
    (hw : w = w') (H : Runs c E arg2 arg3 arg4 x0 x1 P (pc n h w' :: L) k) :
    Runs c E arg2 arg3 arg4 x0 x1 P L (Prog.lift (.store arg4 (Rect.unit (s := S1x16x512) ![0, n, 0] S1x1x512.size h) w Finset.univ hx hm) >>= fun _ => k) := by
  subst hw
  exact Runs.store H

/-- Statements of part 17 of the body: the last merge and the first extraction. -/
theorem part17 {L : List (SP F)} (v11 : FVec F S512x4096 .f32) (v297 : FVec F S512x128 .f32) (v298 : FVec F S512x128 .f32) (v299 : FVec F S512x128 .f32) (v300 : FVec F S512x128 .f32) (v302 : FVec F S512x128 .f32) (v303 : FVec F S512x128 .f32) (v304 : FVec F S512x128 .f32) (v305 : FVec F S512x128 .f32) (v485 : FVec F S512x128 .f32) (v486 : FVec F S512x128 .f32) (v490 : FVec F S512x128 .f32) (v491 : FVec F S512x128 .f32) (v493 : FVec F S512x128 .f32) (v494 : FVec F S512x128 .f32) (v495 : FVec F S512x128 .f32) (v496 : FVec F S512x128 .f32)
    (h_v297 : Cand v11 v297 v298)
    (h_v299 : Cand v11 v299 v300)
    (h_v302 : Cand v11 v302 v303)
    (h_v304 : Cand v11 v304 v305)
    (h_v485 : Cand v11 v485 v486)
    (h_v490 : Cand v11 v490 v491)
    (h_v493 : Cand v11 v493 v494)
    (h_v495 : Cand v11 v495 v496)
    {k : ((Σ' (v515 : FVec F S512x512 .f32) (v517 : FVec F S512x1 .f32) (v532 : FVec F S512x512 .f32) (v534 : FVec F S512x1 .f32) (v538 : FVec F S512x512 .f32) (v540 : FVec F S512x1 .f32), IVec S1x512 32)) → Prog (TpuEff nD τ sig (Elt F) Λ₀ .tc) PUnit}
    (H : ∀ (col : FVec F S512x512 .f32) (R : ℕ → FVec F S512x512 .f32), (∀ k, R (k + 1) = nxC col (R k)) → Cands v11 (R 0) col → R = itC col (R 0) →
      Runs c E arg2 arg3 arg4 x0 x1 P (pc 0 inb_S1x16x512_S1x1x512_0_0_0 (rowC col (R 0)) :: L)
      (k ⟨col, mC (R 0), R 1, mC (R 1), ccC col (R 1), cC col (R 1), transpose S1x512 [1, 0] (fptosi 32 (cC col (R 1))) transposes_S512x1_p1_0_S1x512⟩)) :
    Runs c E arg2 arg3 arg4 x0 x1 P L (k0_part17 i arg2 harg2 arg3 harg3 arg4 harg4 v297 v298 v299 v300 v302 v303 v304 v305 v485 v486 v490 v491 v493 v494 v495 v496 >>= k) := by
  rw [k0_part17_eq_skeleton]
  unfold k0_part17_skel
  refine Runs.load2 ?_
  refine Runs.storeRow (w' := rowC (k0_pay505 v297 v298 v299 v300 v302 v303 v304 v305 v485 v486 v490 v491 v493 v494 v495 v496) (itC (k0_pay505 v297 v298 v299 v300 v302 v303 v304 v305 v485 v486 v490 v491 v493 v494 v495 v496) (k0_pay504 v297 v299 v302 v304 v485 v490 v493 v495) 0)) rfl ?_
  refine Runs.pure ?_
  refine H (k0_pay505 v297 v298 v299 v300 v302 v303 v304 v305 v485 v486 v490 v491 v493 v494 v495 v496) (itC (k0_pay505 v297 v298 v299 v300 v302 v303 v304 v305 v485 v486 v490 v491 v493 v494 v495 v496) (k0_pay504 v297 v299 v302 v304 v485 v490 v493 v495)) (itC_succ _ _) ⟨_, _, _, _, _, _, _, _, ?_, ?_, ?_, ?_, rfl, rfl⟩ rfl
  · exact (Cand.sel _ (Cand.sel _ h_v485 h_v490) h_v297)
  · exact (Cand.sel _ (Cand.sel _ h_v490 h_v485) h_v299)
  · exact (Cand.sel _ h_v495 h_v302)
  · exact (Cand.sel _ h_v493 h_v304)

/-- Statements of part 18 of the body. -/
theorem part18 {L : List (SP F)} (col : FVec F S512x512 .f32) (R : ℕ → FVec F S512x512 .f32) (hR : ∀ k, R (k + 1) = nxC col (R k))
    {k : ((Σ' (v551 : FVec F S512x1 .f32) (v568 : FVec F S512x1 .f32), FVec F S512x512 .f32)) → Prog (TpuEff nD τ sig (Elt F) Λ₀ .tc) PUnit}
    (H : Runs c E arg2 arg3 arg4 x0 x1 P (pc 3 inb_S1x16x512_S1x1x512_0_3_0 (rowC col (R 3)) :: pc 2 inb_S1x16x512_S1x1x512_0_2_0 (rowC col (R 2)) :: pc 1 inb_S1x16x512_S1x1x512_0_1_0 (rowC col (R 1)) :: L)
      (k ⟨mC (R 2), mC (R 3), R 4⟩)) :
    Runs c E arg2 arg3 arg4 x0 x1 P L (k0_part18 i arg2 harg2 arg3 harg3 arg4 harg4 (col) (R 1) (ccC col (R 1)) (cC col (R 1)) (transpose S1x512 [1, 0] (fptosi 32 (cC col (R 1))) transposes_S512x1_p1_0_S1x512) >>= k) := by
  have e4 : R 4 = nxC col (R 3) := hR 3
  have e3 : R 3 = nxC col (R 2) := hR 2
  have e2 : R 2 = nxC col (R 1) := hR 1
  clear hR
  generalize R 1 = r1 at *
  generalize R 2 = r2 at *
  generalize R 3 = r3 at *
  generalize R 4 = r4 at *
  subst e4
  subst e3
  subst e2
  rw [k0_part18_eq_skeleton]
  unfold k0_part18_skel
  refine Runs.load2 ?_
  refine Runs.store ?_
  refine Runs.load2 ?_
  refine Runs.store ?_
  refine Runs.load2 ?_
  refine Runs.store ?_
  refine Runs.pure ?_
  exact H

/-- Statements of part 19 of the body. -/
theorem part19 {L : List (SP F)} (col : FVec F S512x512 .f32) (R : ℕ → FVec F S512x512 .f32) (hR : ∀ k, R (k + 1) = nxC col (R k))
    {k : ((Σ' (v585 : FVec F S512x1 .f32) (v602 : FVec F S512x1 .f32) (v617 : FVec F S512x512 .f32) (v619 : FVec F S512x1 .f32) (v623 : FVec F S512x512 .f32), FVec F S512x1 .f32)) → Prog (TpuEff nD τ sig (Elt F) Λ₀ .tc) PUnit}
    (H : Runs c E arg2 arg3 arg4 x0 x1 P (pc 5 inb_S1x16x512_S1x1x512_0_5_0 (rowC col (R 5)) :: pc 4 inb_S1x16x512_S1x1x512_0_4_0 (rowC col (R 4)) :: L)
      (k ⟨mC (R 4), mC (R 5), R 6, mC (R 6), ccC col (R 6), cC col (R 6)⟩)) :
    Runs c E arg2 arg3 arg4 x0 x1 P L (k0_part19 i arg2 harg2 arg3 harg3 arg4 harg4 (col) (R 4) >>= k) := by
  have e6 : R 6 = nxC col (R 5) := hR 5
  have e5 : R 5 = nxC col (R 4) := hR 4
  clear hR
  generalize R 4 = r4 at *
  generalize R 5 = r5 at *
  generalize R 6 = r6 at *
  subst e6
  subst e5
  rw [k0_part19_eq_skeleton]
  unfold k0_part19_skel
  refine Runs.load2 ?_
  refine Runs.store ?_
  refine Runs.load2 ?_
  refine Runs.store ?_
  refine Runs.pure ?_
  exact H

/-- Statements of part 20 of the body. -/
theorem part20 {L : List (SP F)} (col : FVec F S512x512 .f32) (R : ℕ → FVec F S512x512 .f32) (hR : ∀ k, R (k + 1) = nxC col (R k))
    {k : ((Σ' (v636 : FVec F S512x1 .f32) (v651 : FVec F S512x512 .f32) (v653 : FVec F S512x1 .f32) (v657 : FVec F S512x512 .f32), FVec F S512x512 .f32)) → Prog (TpuEff nD τ sig (Elt F) Λ₀ .tc) PUnit}
    (H : Runs c E arg2 arg3 arg4 x0 x1 P (pc 8 inb_S1x16x512_S1x1x512_0_8_0 (rowC col (R 8)) :: pc 7 inb_S1x16x512_S1x1x512_0_7_0 (rowC col (R 7)) :: pc 6 inb_S1x16x512_S1x1x512_0_6_0 (rowC col (R 6)) :: L)
      (k ⟨mC (R 7), R 8, mC (R 8), ccC col (R 8), broadcastTo S512x512 (cC col (R 8)) broadcasts_S512x1_S512x512⟩)) :
    Runs c E arg2 arg3 arg4 x0 x1 P L (k0_part20 i arg2 harg2 arg3 harg3 arg4 harg4 (col) (R 6) (ccC col (R 6)) (cC col (R 6)) >>= k) := by
  have e8 : R 8 = nxC col (R 7) := hR 7
  have e7 : R 7 = nxC col (R 6) := hR 6
  clear hR
  generalize R 6 = r6 at *
  generalize R 7 = r7 at *
  generalize R 8 = r8 at *
  subst e8
  subst e7
  rw [k0_part20_eq_skeleton]
  unfold k0_part20_skel
  refine Runs.load2 ?_
  refine Runs.store ?_
  refine Runs.load2 ?_
  refine Runs.store ?_
  refine Runs.load2 ?_
  refine Runs.store ?_
  refine Runs.pure ?_
  exact H

/-- Statements of part 21 of the body. -/
theorem part21 {L : List (SP F)} (col : FVec F S512x512 .f32) (R : ℕ → FVec F S512x512 .f32) (hR : ∀ k, R (k + 1) = nxC col (R k))
    {k : ((Σ' (v670 : FVec F S512x1 .f32) (v687 : FVec F S512x1 .f32) (v702 : FVec F S512x512 .f32) (v704 : FVec F S512x1 .f32) (v706 : IVec S512x512 1), F .f32)) → Prog (TpuEff nD τ sig (Elt F) Λ₀ .tc) PUnit}
    (H : Runs c E arg2 arg3 arg4 x0 x1 P (pc 10 inb_S1x16x512_S1x1x512_0_10_0 (rowC col (R 10)) :: pc 9 inb_S1x16x512_S1x1x512_0_9_0 (rowC col (R 9)) :: L)
      (k ⟨mC (R 9), mC (R 10), R 11, mC (R 11), cmpf .oeq (R 11) (broadcastTo S512x512 (mC (R 11)) broadcasts_S512x1_S512x512), (Scalar.ofBits .f32 0x45800000#32 : F .f32)⟩)) :
    Runs c E arg2 arg3 arg4 x0 x1 P L (k0_part21 i arg2 harg2 arg3 harg3 arg4 harg4 (col) (R 8) (ccC col (R 8)) (broadcastTo S512x512 (cC col (R 8)) broadcasts_S512x1_S512x512) >>= k) := by
  have e11 : R 11 = nxC col (R 10) := hR 10
  have e10 : R 10 = nxC col (R 9) := hR 9
  have e9 : R 9 = nxC col (R 8) := hR 8
  clear hR
  generalize R 8 = r8 at *
  generalize R 9 = r9 at *
  generalize R 10 = r10 at *
  generalize R 11 = r11 at *
  subst e11
  subst e10
  subst e9
  rw [k0_part21_eq_skeleton]
  unfold k0_part21_skel
  refine Runs.load2 ?_
  refine Runs.store ?_
  refine Runs.load2 ?_
  refine Runs.store ?_
  refine Runs.pure ?_
  exact H

/-- Statements of part 22 of the body. -/
theorem part22 {L : List (SP F)} (col : FVec F S512x512 .f32) (R : ℕ → FVec F S512x512 .f32) (hR : ∀ k, R (k + 1) = nxC col (R k))
    {k : ((Σ' (v721 : FVec F S512x1 .f32) (v736 : FVec F S512x512 .f32) (v738 : FVec F S512x1 .f32) (v742 : FVec F S512x512 .f32) (v744 : FVec F S512x1 .f32), IVec S1x512 32)) → Prog (TpuEff nD τ sig (Elt F) Λ₀ .tc) PUnit}
    (H : Runs c E arg2 arg3 arg4 x0 x1 P (pc 12 inb_S1x16x512_S1x1x512_0_12_0 (rowC col (R 12)) :: pc 11 inb_S1x16x512_S1x1x512_0_11_0 (rowC col (R 11)) :: L)
      (k ⟨mC (R 12), R 13, mC (R 13), ccC col (R 13), cC col (R 13), transpose S1x512 [1, 0] (fptosi 32 (cC col (R 13))) transposes_S512x1_p1_0_S1x512⟩)) :
    Runs c E arg2 arg3 arg4 x0 x1 P L (k0_part22 i arg2 harg2 arg3 harg3 arg4 harg4 (col) (R 11) (cmpf .oeq (R 11) (broadcastTo S512x512 (mC (R 11)) broadcasts_S512x1_S512x512)) ((Scalar.ofBits .f32 0x45800000#32 : F .f32)) >>= k) := by
  have e13 : R 13 = nxC col (R 12) := hR 12
  have e12 : R 12 = nxC col (R 11) := hR 11
  clear hR
  generalize R 11 = r11 at *
  generalize R 12 = r12 at *
  generalize R 13 = r13 at *
  subst e13
  subst e12
  rw [k0_part22_eq_skeleton]
  unfold k0_part22_skel
  refine Runs.load2 ?_
  refine Runs.store ?_
  refine Runs.load2 ?_
  refine Runs.store ?_
  refine Runs.pure ?_
  exact H

/-- Statements of part 23 of the body. -/
theorem part23 {L : List (SP F)} (col : FVec F S512x512 .f32) (R : ℕ → FVec F S512x512 .f32) (hR : ∀ k, R (k + 1) = nxC col (R k))
    {k : ((Σ' (v755 : FVec F S512x1 .f32) (v772 : FVec F S512x1 .f32), FVec F S512x1 .f32)) → Prog (TpuEff nD τ sig (Elt F) Λ₀ .tc) PUnit}
    (H : Runs c E arg2 arg3 arg4 x0 x1 P (pc 15 inb_S1x16x512_S1x1x512_0_15_0 (rowC col (R 15)) :: pc 14 inb_S1x16x512_S1x1x512_0_14_0 (rowC col (R 14)) :: pc 13 inb_S1x16x512_S1x1x512_0_13_0 (rowC col (R 13)) :: L)
      (k ⟨mC (R 14), mC (R 15), addf (broadcast S512x1 (Scalar.ofBits .f32 0x00000000#32 : F .f32)) (sitofp .f32 (extui 32 (cmpf .olt (mC (R 0)) (mC (R 15))) natLt_1_32))⟩)) :
    Runs c E arg2 arg3 arg4 x0 x1 P L (k0_part23 i arg2 harg2 arg3 harg3 arg4 harg4 (col) (mC (R 0)) (R 13) (ccC col (R 13)) (cC col (R 13)) (transpose S1x512 [1, 0] (fptosi 32 (cC col (R 13))) transposes_S512x1_p1_0_S1x512) >>= k) := by
  have e15 : R 15 = nxC col (R 14) := hR 14
  have e14 : R 14 = nxC col (R 13) := hR 13
  have e13 : R 13 = nxC col (R 12) := hR 12
  have e12 : R 12 = nxC col (R 11) := hR 11
  have e11 : R 11 = nxC col (R 10) := hR 10
  have e10 : R 10 = nxC col (R 9) := hR 9
  have e9 : R 9 = nxC col (R 8) := hR 8
  have e8 : R 8 = nxC col (R 7) := hR 7
  have e7 : R 7 = nxC col (R 6) := hR 6
  have e6 : R 6 = nxC col (R 5) := hR 5
  have e5 : R 5 = nxC col (R 4) := hR 4
  have e4 : R 4 = nxC col (R 3) := hR 3
  have e3 : R 3 = nxC col (R 2) := hR 2
  have e2 : R 2 = nxC col (R 1) := hR 1
  have e1 : R 1 = nxC col (R 0) := hR 0
  clear hR
  generalize R 0 = r0 at *
  generalize R 1 = r1 at *
  generalize R 2 = r2 at *
  generalize R 3 = r3 at *
  generalize R 4 = r4 at *
  generalize R 5 = r5 at *
  generalize R 6 = r6 at *
  generalize R 7 = r7 at *
  generalize R 8 = r8 at *
  generalize R 9 = r9 at *
  generalize R 10 = r10 at *
  generalize R 11 = r11 at *
  generalize R 12 = r12 at *
  generalize R 13 = r13 at *
  generalize R 14 = r14 at *
  generalize R 15 = r15 at *
  subst e15
  subst e14
  subst e13
  subst e12
  subst e11
  subst e10
  subst e9
  subst e8
  subst e7
  subst e6
  subst e5
  subst e4
  subst e3
  subst e2
  subst e1
  rw [k0_part23_eq_skeleton]
  unfold k0_part23_skel
  refine Runs.load2 ?_
  refine Runs.store ?_
  refine Runs.load2 ?_
  refine Runs.store ?_
  refine Runs.load2 ?_
  refine Runs.store ?_
  refine Runs.pure ?_
  exact H

/-- Statements of part 24 of the body. -/
theorem part24 {L : List (SP F)} (col : FVec F S512x512 .f32) (R : ℕ → FVec F S512x512 .f32) (hR : ∀ k, R (k + 1) = nxC col (R k))
    {k : ((FVec F S512x1 .f32)) → Prog (TpuEff nD τ sig (Elt F) Λ₀ .tc) PUnit}
    (H : Runs c E arg2 arg3 arg4 x0 x1 P (L)
      (k (nlt fun k => mC (R k)))) :
    Runs c E arg2 arg3 arg4 x0 x1 P L (k0_part24 i arg2 harg2 arg3 harg3 arg4 harg4 (mC (R 1)) (mC (R 2)) (mC (R 3)) (mC (R 4)) (mC (R 5)) (mC (R 6)) (mC (R 7)) (mC (R 8)) (mC (R 9)) (mC (R 10)) (mC (R 11)) (mC (R 12)) (mC (R 13)) (mC (R 14)) (mC (R 15)) (addf (broadcast S512x1 (Scalar.ofBits .f32 0x00000000#32 : F .f32)) (sitofp .f32 (extui 32 (cmpf .olt (mC (R 0)) (mC (R 15))) natLt_1_32))) >>= k) := by
  rw [k0_part24_eq_skeleton]
  unfold k0_part24_skel
  refine Runs.pure ?_
  exact H

/-- Statements of part 1 of the body. -/
theorem part1 {L : List (SP F)} (R : ℕ → FVec F S512x4096 .f32) (hR : ∀ k, R (k + 1) = nxF colF (R k))
    {k : ((Σ' (v867 : FVec F S512x4096 .f32) (v903 : FVec F S512x4096 .f32) (c2_i32 : BitVec 32), IVec S512x4096 1)) → Prog (TpuEff nD τ sig (Elt F) Λ₀ .tc) PUnit}
    (H : Runs c E arg2 arg3 arg4 x0 x1 P (pc 1 inb_S1x16x512_S1x1x512_0_1_0 (rowF colF (R 1)) :: pc 0 inb_S1x16x512_S1x1x512_0_0_0 (rowF colF (R 0)) :: L)
      (k ⟨colF, R 2, 2#32, cmpf .oeq (R 2) (broadcastTo S512x4096 (mF (R 2)) broadcasts_S512x1_S512x4096)⟩)) :
    Runs c E arg2 arg3 arg4 x0 x1 P L (k0_part1 i arg2 harg2 arg3 harg3 arg4 harg4 (R 0) >>= k) := by
  have e2 : R 2 = nxF colF (R 1) := hR 1
  have e1 : R 1 = nxF colF (R 0) := hR 0
  clear hR
  generalize R 0 = r0 at *
  generalize R 1 = r1 at *
  generalize R 2 = r2 at *
  subst e2
  subst e1
  rw [k0_part1_eq_skeleton]
  unfold k0_part1_skel
  refine Runs.load2 ?_
  refine Runs.store ?_
  refine Runs.load2 ?_
  refine Runs.store ?_
  refine Runs.pure ?_
  exact H

/-- Statements of part 2 of the body. -/
theorem part2 {L : List (SP F)} (R : ℕ → FVec F S512x4096 .f32) (hR : ∀ k, R (k + 1) = nxF colF (R k))
    {k : ((Σ' (v939 : FVec F S512x4096 .f32) (c4_i32 : BitVec 32) (v945 : FVec F S512x4096 .f32) (v947 : FVec F S512x1 .f32), IVec S1x512 32)) → Prog (TpuEff nD τ sig (Elt F) Λ₀ .tc) PUnit}
    (H : Runs c E arg2 arg3 arg4 x0 x1 P (pc 3 inb_S1x16x512_S1x1x512_0_3_0 (rowF colF (R 3)) :: pc 2 inb_S1x16x512_S1x1x512_0_2_0 (rowF colF (R 2)) :: L)
      (k ⟨R 4, 4#32, ccF colF (R 4), cF colF (R 4), transpose S1x512 [1, 0] (fptosi 32 (cF colF (R 4))) transposes_S512x1_p1_0_S1x512⟩)) :
    Runs c E arg2 arg3 arg4 x0 x1 P L (k0_part2 i arg2 harg2 arg3 harg3 arg4 harg4 (colF) (R 2) (2#32) (cmpf .oeq (R 2) (broadcastTo S512x4096 (mF (R 2)) broadcasts_S512x1_S512x4096)) >>= k) := by
  have e4 : R 4 = nxF colF (R 3) := hR 3
  have e3 : R 3 = nxF colF (R 2) := hR 2
  clear hR
  generalize R 2 = r2 at *
  generalize R 3 = r3 at *
  generalize R 4 = r4 at *
  subst e4
  subst e3
  rw [k0_part2_eq_skeleton]
  unfold k0_part2_skel
  refine Runs.load2 ?_
  refine Runs.store ?_
  refine Runs.load2 ?_
  refine Runs.store ?_
  refine Runs.pure ?_
  exact H

/-- Statements of part 3 of the body. -/
theorem part3 {L : List (SP F)} (R : ℕ → FVec F S512x4096 .f32) (hR : ∀ k, R (k + 1) = nxF colF (R k))
    {k : ((Σ' (v975 : FVec F S512x4096 .f32) (v981 : FVec F S512x4096 .f32), FVec F S512x4096 .f32)) → Prog (TpuEff nD τ sig (Elt F) Λ₀ .tc) PUnit}
    (H : Runs c E arg2 arg3 arg4 x0 x1 P (pc 6 inb_S1x16x512_S1x1x512_0_6_0 (rowF colF (R 6)) :: pc 5 inb_S1x16x512_S1x1x512_0_5_0 (rowF colF (R 5)) :: pc 4 inb_S1x16x512_S1x1x512_0_4_0 (rowF colF (R 4)) :: L)
      (k ⟨R 6, ccF colF (R 6), broadcastTo S512x4096 (cF colF (R 6)) broadcasts_S512x1_S512x4096⟩)) :
    Runs c E arg2 arg3 arg4 x0 x1 P L (k0_part3 i arg2 harg2 arg3 harg3 arg4 harg4 (colF) (R 4) (4#32) (ccF colF (R 4)) (cF colF (R 4)) (transpose S1x512 [1, 0] (fptosi 32 (cF colF (R 4))) transposes_S512x1_p1_0_S1x512) >>= k) := by
  have e6 : R 6 = nxF colF (R 5) := hR 5
  have e5 : R 5 = nxF colF (R 4) := hR 4
  clear hR
  generalize R 4 = r4 at *
  generalize R 5 = r5 at *
  generalize R 6 = r6 at *
  subst e6
  subst e5
  rw [k0_part3_eq_skeleton]
  unfold k0_part3_skel
  refine Runs.load2 ?_
  refine Runs.store ?_
  refine Runs.load2 ?_
  refine Runs.store ?_
  refine Runs.load2 ?_
  refine Runs.store ?_
  refine Runs.pure ?_
  exact H

/-- Statements of part 4 of the body. -/
theorem part4 {L : List (SP F)} (R : ℕ → FVec F S512x4096 .f32) (hR : ∀ k, R (k + 1) = nxF colF (R k))
    {k : ((Σ' (v1029 : FVec F S512x4096 .f32) (c9_i32 : BitVec 32), FVec F S512x1 .f32)) → Prog (TpuEff nD τ sig (Elt F) Λ₀ .tc) PUnit}
    (H : Runs c E arg2 arg3 arg4 x0 x1 P (pc 8 inb_S1x16x512_S1x1x512_0_8_0 (rowF colF (R 8)) :: pc 7 inb_S1x16x512_S1x1x512_0_7_0 (rowF colF (R 7)) :: L)
      (k ⟨R 9, 9#32, mF (R 9)⟩)) :
    Runs c E arg2 arg3 arg4 x0 x1 P L (k0_part4 i arg2 harg2 arg3 harg3 arg4 harg4 (colF) (R 6) (ccF colF (R 6)) (broadcastTo S512x4096 (cF colF (R 6)) broadcasts_S512x1_S512x4096) >>= k) := by
  have e9 : R 9 = nxF colF (R 8) := hR 8
  have e8 : R 8 = nxF colF (R 7) := hR 7
  have e7 : R 7 = nxF colF (R 6) := hR 6
  clear hR
  generalize R 6 = r6 at *
  generalize R 7 = r7 at *
  generalize R 8 = r8 at *
  generalize R 9 = r9 at *
  subst e9
  subst e8
  subst e7
  rw [k0_part4_eq_skeleton]
  unfold k0_part4_skel
  refine Runs.load2 ?_
  refine Runs.store ?_
  refine Runs.load2 ?_
  refine Runs.store ?_
  refine Runs.pure ?_
  exact H

/-- Statements of part 5 of the body. -/
theorem part5 {L : List (SP F)} (R : ℕ → FVec F S512x4096 .f32) (hR : ∀ k, R (k + 1) = nxF colF (R k))
    {k : ((Σ' (v1065 : FVec F S512x4096 .f32) (c11_i32 : BitVec 32) (v1071 : FVec F S512x4096 .f32), FVec F S512x1 .f32)) → Prog (TpuEff nD τ sig (Elt F) Λ₀ .tc) PUnit}
    (H : Runs c E arg2 arg3 arg4 x0 x1 P (pc 10 inb_S1x16x512_S1x1x512_0_10_0 (rowF colF (R 10)) :: pc 9 inb_S1x16x512_S1x1x512_0_9_0 (rowF colF (R 9)) :: L)
      (k ⟨R 11, 11#32, ccF colF (R 11), cF colF (R 11)⟩)) :
    Runs c E arg2 arg3 arg4 x0 x1 P L (k0_part5 i arg2 harg2 arg3 harg3 arg4 harg4 (colF) (R 9) (9#32) (mF (R 9)) >>= k) := by
  have e11 : R 11 = nxF colF (R 10) := hR 10
  have e10 : R 10 = nxF colF (R 9) := hR 9
  clear hR
  generalize R 9 = r9 at *
  generalize R 10 = r10 at *
  generalize R 11 = r11 at *
  subst e11
  subst e10
  rw [k0_part5_eq_skeleton]
  unfold k0_part5_skel
  refine Runs.load2 ?_
  refine Runs.store ?_
  refine Runs.load2 ?_
  refine Runs.store ?_
  refine Runs.pure ?_
  exact H

/-- Statements of part 6 of the body. -/
theorem part6 {L : List (SP F)} (R : ℕ → FVec F S512x4096 .f32) (hR : ∀ k, R (k + 1) = nxF colF (R k))
    {k : ((Σ' (v1101 : FVec F S512x4096 .f32) (v1107 : FVec F S512x4096 .f32) (v1109 : FVec F S512x1 .f32), IVec S1x1x512 32)) → Prog (TpuEff nD τ sig (Elt F) Λ₀ .tc) PUnit}
    (H : Runs c E arg2 arg3 arg4 x0 x1 P (pc 12 inb_S1x16x512_S1x1x512_0_12_0 (rowF colF (R 12)) :: pc 11 inb_S1x16x512_S1x1x512_0_11_0 (rowF colF (R 11)) :: L)
      (k ⟨R 13, ccF colF (R 13), cF colF (R 13), rowF colF (R 13)⟩)) :
    Runs c E arg2 arg3 arg4 x0 x1 P L (k0_part6 i arg2 harg2 arg3 harg3 arg4 harg4 (colF) (R 11) (11#32) (ccF colF (R 11)) (cF colF (R 11)) >>= k) := by
  have e13 : R 13 = nxF colF (R 12) := hR 12
  have e12 : R 12 = nxF colF (R 11) := hR 11
  clear hR
  generalize R 11 = r11 at *
  generalize R 12 = r12 at *
  generalize R 13 = r13 at *
  subst e13
  subst e12
  rw [k0_part6_eq_skeleton]
  unfold k0_part6_skel
  refine Runs.load2 ?_
  refine Runs.store ?_
  refine Runs.load2 ?_
  refine Runs.store ?_
  refine Runs.load2 ?_
  refine Runs.pure ?_
  exact H

end Run

end Cert.Proof.KnnIdeal

end
-- ==== Proof.BodyIdeal.lean ====
module

public import proofs.«01_k».proof.Proof.ExtIdeal
public import Idealize.ShloMosaic.Lib.Claim
public import Idealize.ShloMosaic.Lib.PointwiseCore

@[expose] public section

set_option maxRecDepth 16384

noncomputable section

namespace Cert.Proof.KnnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable {c : Dev nD} {E : Set ℕ} {i : grid0.Coords} {arg2 : Memref sig .tc .vmem S1x256x4096 .f32} {harg2 : arg2.IsWhole} {arg3 : Memref sig .tc .vmem S1x256x512 .f32} {harg3 : arg3.IsWhole} {arg4 : Memref sig .tc .vmem S1x16x512 .i32} {harg4 : arg4.IsWhole}
  {x0 : Vec F S1x256x4096 .f32} {x1 : Vec F S1x256x512 .f32} {P : Vec F S1x16x512 .i32 → Prop}

theorem Runs.branch {L : List (SP F)} {b : Prop} [Decidable b] {p q : Prog (TpuEff nD τ sig (Elt F) Λ₀ .tc) PUnit}
    (h1 : b → Runs c E arg2 arg3 arg4 x0 x1 P L p) (h2 : ¬b → Runs c E arg2 arg3 arg4 x0 x1 P L q) :
    Runs c E arg2 arg3 arg4 x0 x1 P L (if b then p else q) := by
  split
  · exact h1 ‹_›
  · exact h2 ‹_›

set_option maxRecDepth 65536 in
/-- The whole extraction over all the scores. -/
theorem part7 {L : List (SP F)} (R : ℕ → FVec F S512x4096 .f32) (hR : ∀ k, R (k + 1) = nxF colF (R k))
    {k : ((Σ' (v1137 : FVec F S512x4096 .f32) (v1143 : FVec F S512x4096 .f32), FVec F S512x4096 .f32)) → Prog (TpuEff nD τ sig (Elt F) Λ₀ .tc) PUnit}
    (H : Runs c E arg2 arg3 arg4 x0 x1 P (pcs (fun k => rowF colF (R k)) L) (k ⟨R 15, ccF colF (R 15), broadcastTo S512x4096 (cF colF (R 15)) broadcasts_S512x1_S512x4096⟩)) :
    Runs c E arg2 arg3 arg4 x0 x1 P L (k0_part7 i arg2 harg2 arg3 harg3 arg4 harg4 (R 0) >>= k) := by
  rw [k0_part7_eq_skeleton]
  unfold k0_part7_skel
  simp only [bind_assoc]
  refine part1 R hR ?_
  dsimp only
  refine part2 R hR ?_
  dsimp only
  refine part3 R hR ?_
  dsimp only
  refine part4 R hR ?_
  dsimp only
  refine part5 R hR ?_
  dsimp only
  refine part6 R hR ?_
  dsimp only
  have e14 : R 14 = nxF colF (R 13) := hR 13
  have e15 : R 15 = nxF colF (R 14) := hR 14
  refine Runs.storeRow (w' := rowF colF (R 13)) rfl ?_
  refine Runs.load2 ?_
  refine Runs.storeRow (w' := rowF colF (R 14)) (by rw [e14]; rfl) ?_
  refine Runs.load2 ?_
  refine Runs.storeRow (w' := rowF colF (R 15)) (by rw [e15, e14]; rfl) ?_
  refine Runs.pure ?_
  rw [e15, e14] at H
  unfold pcs at H
  exact H

/-- THE BODY, from its own two blocks. -/
theorem body (hP : ∀ o, Post (k0_pay71 (View.ld x0 (Rect.unit (s := S1x256x4096) ![0, 0, 0] S1x256x4096.size inb_S1x256x4096_S1x256x4096_0_0_0)) (View.ld x1 (Rect.unit (s := S1x256x512) ![0, 0, 0] S1x256x512.size inb_S1x256x512_S1x256x512_0_0_0))) o → P o) :
    Runs c E arg2 arg3 arg4 x0 x1 P [] (cc0__knn_block_kernel (F := F) i arg2 harg2 arg3 harg3 arg4 harg4) := by
  rw [cc0__knn_block_kernel_eq_skeleton]
  unfold cc0__knn_block_kernel_skel
  refine part8 ?_
  intro v11 v13 v14 v16 v17 v19 v20 v22 v23 v25 v26 v28 v29 v31 v32 v34 v35 v37 v38 v39 h_v11 h_v14 h_v17 h_v20 h_v23 h_v26 h_v29 h_v32 h_v35 h_v13 h_v38 h_v39
  refine part9 v38 v11 v13 v39 h_v13 h_v39 h_v38 ?_
  intro v40 v41 v43 v44 v46 v47 v49 v50 v52 v53 v55 v56 v58 v59 v61 v62 v64 v65 v67 v68 v70 v71 v73 v74 v76 v77 v79 v80 v82 v83 v84 h_v38 h_v41 h_v44 h_v47 h_v50 h_v53 h_v56 h_v59 h_v62 h_v65 h_v68 h_v71 h_v74 h_v77 h_v80 h_v83 h_v84
  refine part10 v83 v31 v28 v11 v13 v14 v16 v17 v19 v20 v22 v23 v25 v26 v29 v84 h_v13 h_v14 h_v17 h_v20 h_v23 h_v84 h_v83 h_v29 h_v26 ?_
  intro v85 v86 v88 v89 v91 v92 v94 v95 v97 v98 v100 v101 v103 v104 v106 v107 v109 v121 v122 v128 v129 v131 v132 v133 v134 v135 v136 h_v83 h_v86 h_v89 h_v92 h_v95 h_v98 h_v101 h_v104 h_v107 h_v121 h_v128 h_v131 h_v133 h_v136
  refine part11 v11 v26 v28 v29 v31 v32 v34 v35 v37 v38 v40 v41 v43 v121 v122 v128 v129 v131 v132 v133 v134 v135 v136 h_v26 h_v29 h_v32 h_v35 h_v38 h_v41 h_v121 h_v128 h_v131 h_v133 h_v136 ?_
  intro v183 v184 v185 v186 v188 v189 v190 v191 v193 v194 v195 v196 h_v183 h_v185 h_v188 h_v190 h_v193 h_v195
  refine part12 v11 v44 v46 v47 v49 v50 v52 v53 v55 v56 v58 v59 v61 v193 v194 v195 v196 h_v44 h_v47 h_v50 h_v53 h_v56 h_v59 h_v193 h_v195 ?_
  intro v243 v244 v246 v247 v249 v250 v252 v253 v254 v255 v256 h_v243 h_v246 h_v249 h_v252 h_v255
  refine part13 v11 v62 v64 v65 v67 v68 v70 v71 v73 v183 v184 v185 v186 v188 v189 v190 v191 v243 v244 v246 v247 v249 v250 v252 v253 v254 v255 v256 h_v62 h_v65 h_v68 h_v71 h_v183 h_v185 h_v188 h_v190 h_v243 h_v246 h_v249 h_v252 h_v255 ?_
  intro v297 v298 v299 v300 v302 v303 v304 v305 v307 v308 v309 v310 v312 v313 v314 v315 v316 h_v297 h_v299 h_v302 h_v304 h_v307 h_v309 h_v312 h_v314
  refine part14 v11 v74 v76 v77 v79 v80 v82 v83 v85 v307 v308 v309 v310 v312 v313 v314 v315 v316 h_v74 h_v77 h_v80 h_v83 h_v307 h_v309 h_v312 h_v314 ?_
  intro v361 v367 v369 v370 v371 v372 v373 v374 v375 v376 h_v369 h_v371 h_v374 h_v376
  refine part15 v11 v86 v88 v89 v91 v92 v94 v95 v97 v98 v100 v101 v103 v104 v106 v107 v109 v361 v367 v369 v370 v371 v372 v373 v374 v375 v376 h_v86 h_v89 h_v92 h_v95 h_v98 h_v101 h_v104 h_v107 h_v369 h_v371 h_v374 h_v376 ?_
  intro v379 v380 v381 v382 v384 v385 v386 v387 v399 v400 v406 v407 v409 v410 v411 v412 v424 v425 v427 v430 v431 v432 v433 v434 v435 v436 h_v379 h_v381 h_v384 h_v386 h_v399 h_v406 h_v409 h_v411 h_v424 h_v431 h_v434 h_v436
  refine part16 v11 v379 v380 v381 v382 v384 v385 v386 v387 v399 v400 v406 v407 v409 v410 v411 v412 v424 v425 v427 v430 v431 v432 v433 v434 v435 v436 h_v379 h_v381 h_v384 h_v386 h_v399 h_v406 h_v409 h_v411 h_v424 h_v431 h_v434 h_v436 ?_
  intro v485 v486 v490 v491 v493 v494 v495 v496 h_v485 h_v490 h_v493 h_v495
  refine part17 v11 v297 v298 v299 v300 v302 v303 v304 v305 v485 v486 v490 v491 v493 v494 v495 v496 h_v297 h_v299 h_v302 h_v304 h_v485 h_v490 h_v493 h_v495 ?_
  intro col R hR hC hI
  refine part18 col R hR ?_
  refine part19 col R hR ?_
  refine part20 col R hR ?_
  refine part21 col R hR ?_
  refine part22 col R hR ?_
  refine part23 col R hR ?_
  refine part24 col R hR ?_
  subst h_v11
  refine Runs.branch (fun hb => ?_) (fun hb => ?_)
  · refine part7 (itF colF _) (itF_succ _ _) ?_
    refine Runs.ret (cover_pcs _ _) (hP _ ⟨R 0, col, hC, fun h => absurd ?_ h, fun _ y => canon_pcs _ _ y⟩)
    unfold Bad; rw [← hI]; exact hb
  · refine Runs.ret (cover_pcs (fun k => rowC col (R k)) []) (hP _ ⟨R 0, col, hC, fun _ y => ?_, fun h => absurd ?_ hb⟩)
    · rw [← hI]; exact canon_pcs (fun k => rowC col (R k)) [] y
    · unfold Bad at h; rw [← hI] at h; exact h

end Run

end Cert.Proof.KnnIdeal

end
-- ==== Proof.FrameIdeal.lean ====
/-
  The run of the kernel: what the body leaves in the output's buffer at each grid point, the pipeline's data, the
  body's obligation at a generic point, the run and the frame.
-/
module

public import proofs.«01_k».proof.Proof.BodyIdeal
public import Idealize.ShloMosaic.Lib.Claim

@[expose] public section

noncomputable section

namespace Cert.Proof.KnnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scores of one block of queries against all references, from the two blocks. -/
def score (x0 : Vec F S1x256x4096 .f32) (x1 : Vec F S1x256x512 .f32) : FVec F S512x4096 .f32 :=
  k0_pay71 (View.ld x0 (Rect.unit (s := S1x256x4096) ![0, 0, 0] S1x256x4096.size inb_S1x256x4096_S1x256x4096_0_0_0))
    (View.ld x1 (Rect.unit (s := S1x256x512) ![0, 0, 0] S1x256x512.size inb_S1x256x512_S1x256x512_0_0_0))

/-- The body at a grid point reaches a block of which `Post` of its scores holds. -/
theorem body_at (c : Dev nD) (t : Fin cfg0.N) :
    Runs c Set.univ (st0_0 t) (st0_1 t) (st0_2 t) (iblk m c 0 t) (iblk m c 1 t)
      (Post (score (iblk m c 0 t) (iblk m c 1 t))) [] (bodyAt0 (F := F) t) :=
  body fun _ h => h

/-- What the body leaves in the output's buffer at grid point `t`. -/
def left (c : Dev nD) (t : Fin cfg0.N) : Vec F S1x16x512 .i32 := (body_at m c t).choose

theorem left_post (c : Dev nD) (t : Fin cfg0.N) : Post (score (iblk m c 0 t) (iblk m c 1 t)) (left m c t) :=
  (body_at m c t).choose_spec.1

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = left m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold owns
  iintro ⟨HΦ, Ho, ⟨%d0, %f0, %hf0, H0⟩, ⟨%d1, %f1, %hf1, H1⟩, ⟨%d2, %f2, -, H2⟩⟩
  iapply ((body_at m c t).choose_spec.2 f0 f1 f2 _ hf0 hf1)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists f0; isplitr; · ipureintro; exact hf0
    iexact H0
  isplitl [H1]
  · iexists f1; isplitr; · ipureintro; exact hf1
    iexact H1
  unfold owns left
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays as the pipeline leaves them, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments unchanged and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.KnnIdeal

end
-- ==== Proof.Nearest.lean ====
/-
  The sixteen first of 4096 numbers: first the smaller, of equal ones the earlier. What it is for a list of positions to
  be that selection; that repeated extraction of the least finds it; that the selection by distances and the one by
  scores agree; and when candidates are enough.
-/
module

public import Mathlib.Data.EReal.Operations
public import Mathlib.Data.Fintype.Card
public import Mathlib.Data.Fintype.EquivFin
public import Mathlib.Order.Fin.Basic
public import Idealize.ShloMosaic.Lib.SortFacts

@[expose] public section

namespace Cert.Proof.Nearest

/-- `p` lists the sixteen first positions of `s`: each is, of the positions not listed before it, the first by value
    and then by position. -/
def Top (s : Fin 4096 → EReal) (p : Fin 16 → Fin 4096) : Prop :=
  ∀ k, (∀ i, i < k → p i ≠ p k) ∧ ∀ j, (∀ i, i < k → p i ≠ j) → s (p k) < s j ∨ (s (p k) = s j ∧ p k ≤ j)

/-- Every position that `p` doesn't list has a value above the last listed. -/
def Apart (s : Fin 4096 → EReal) (p : Fin 16 → Fin 4096) : Prop :=
  ∀ j, (∀ i, p i ≠ j) → s (p 15) < s j

theorem Top.inj {s : Fin 4096 → EReal} {p : Fin 16 → Fin 4096} (h : Top s p) : Function.Injective p := by
  intro a b hab
  rcases lt_trichotomy a b with hl | he | hl
  · exact absurd hab ((h b).1 a hl)
  · exact he
  · exact absurd hab.symm ((h a).1 b hl)

/-- The listed values ascend. -/
theorem Top.mono {s : Fin 4096 → EReal} {p : Fin 16 → Fin 4096} (h : Top s p) {a b : Fin 16} (hab : a ≤ b) :
    s (p a) ≤ s (p b) := by
  rcases (h a).2 (p b) (fun i hi e => by have := h.inj e; omega) with h1 | h1
  · exact h1.le
  · exact h1.1.le

/-- The selection is unique. -/
theorem Top.unique {s : Fin 4096 → EReal} {p q : Fin 16 → Fin 4096} (hp : Top s p) (hq : Top s q) : p = q := by
  have key : ∀ n : ℕ, ∀ k : Fin 16, k.val = n → p k = q k := by
    intro n
    induction n using Nat.strong_induction_on with
    | _ n ih =>
      intro k hk
      have e : ∀ i, i < k → p i = q i := fun i hi => ih i.val (by omega) i rfl
      have h1 := (hp k).2 (q k) (fun i hi => by rw [e i hi]; exact (hq k).1 i hi)
      have h2 := (hq k).2 (p k) (fun i hi => by rw [← e i hi]; exact (hp k).1 i hi)
      rcases h1 with h1 | ⟨h1, h1'⟩ <;> rcases h2 with h2 | ⟨h2, h2'⟩
      · exact absurd h2 (not_lt.2 h1.le)
      · exact absurd h2 (ne_of_gt h1)
      · exact absurd h1 (ne_of_gt h2)
      · exact le_antisymm h1' h2'
  exact funext fun k => key _ k rfl

/-- Adding one non-negative number to all the scores: if the selection by the sums is apart from the rest, it is the
    selection by the scores, apart from the rest too. -/
theorem Top.of_add {s d : Fin 4096 → EReal} {b : EReal} (hb : 0 ≤ b) (hd : ∀ i, d i = s i + b)
    {p : Fin 16 → Fin 4096} (h : Top d p) (ha : Apart d p) : Top s p ∧ Apart s p := by
  have mono : ∀ i j, d i < d j → s i < s j := fun i j hij => by
    by_contra hn
    refine absurd hij (not_lt.2 ?_)
    rw [hd, hd]; exact add_le_add_left (not_lt.1 hn) b
  have out : ∀ k j, (∀ i, p i ≠ j) → d (p k) < d j := fun k j hj =>
    lt_of_le_of_lt (h.mono (Fin.le_last k)) (ha j hj)
  obtain ⟨j0, hj0⟩ : ∃ j0 : Fin 4096, ∀ i, p i ≠ j0 := by
    by_contra hn
    push Not at hn
    have := Fintype.card_le_of_surjective p hn
    simp at this
  have inj : ∀ k l, d (p k) = d (p l) → s (p k) = s (p l) := fun k l e => by
    by_cases hT : b = ⊤
    · have bot : ∀ k, s (p k) = ⊥ := fun k => by
        have h1 := out k j0 hj0
        by_contra hn
        rw [hd (p k), hT, EReal.add_top_of_ne_bot hn] at h1
        exact absurd h1 not_top_lt
      rw [bot k, bot l]
    · lift b to ℝ using ⟨hT, fun e => by rw [e] at hb; exact absurd hb (by simp)⟩
      have h2 := congrArg (fun x => x - (b : EReal)) (by rw [← hd, ← hd]; exact e : s (p k) + b = s (p l) + b)
      simpa [EReal.add_sub_cancel_right] using h2
  refine ⟨fun k => ⟨(h k).1, fun j hj => ?_⟩, fun j hj => mono _ _ (ha j hj)⟩
  rcases (h k).2 j hj with h1 | ⟨h1, h2⟩
  · exact .inl (mono _ _ h1)
  · by_cases hr : ∃ l, p l = j
    · obtain ⟨l, rfl⟩ := hr
      exact .inr ⟨inj _ _ h1, h2⟩
    · push Not at hr
      exact absurd h1 (ne_of_lt (out k j hr))

/-- Repeated extraction of the least: values `r k` at entries that carry positions `lab`, the least value `m k`, the least
    position `c k` at which it stands, and the values after it with that position struck out. -/
structure Ext {ι : Type} (s : Fin 4096 → EReal) (lab : ι → Fin 4096) (r : ℕ → ι → EReal) (m : ℕ → EReal)
    (c : ℕ → Fin 4096) : Prop where
  start : ∀ e, r 0 e = s (lab e)
  least : ∀ k e, m k ≤ r k e
  first : ∀ k e, r k e = m k → c k ≤ lab e
  found : ∀ k, ∃ e, r k e = m k ∧ lab e = c k
  next : ∀ k e, r (k + 1) e = if r k e = m k ∧ lab e = c k then ⊤ else r k e

section Ext
variable {ι : Type} {s : Fin 4096 → EReal} {lab : ι → Fin 4096} {r : ℕ → ι → EReal} {m : ℕ → EReal} {c : ℕ → Fin 4096}

open Classical in
/-- The values before extraction `k`: those of the positions extracted before it are `⊤`, the others as at the start. -/
theorem Ext.read (h : Ext s lab r m c) (k : ℕ) (e : ι) :
    r k e = if ∃ i, i < k ∧ c i = lab e then ⊤ else s (lab e) := by
  induction k generalizing e with
  | zero => rw [if_neg (by rintro ⟨i, hi, -⟩; omega)]; exact h.start e
  | succ k ih =>
    rw [h.next]
    by_cases hl : lab e = c k
    · obtain ⟨e', h1, h2⟩ := h.found k
      have : r k e = m k := by rw [ih e, ← h1, ih e', h2, hl]
      rw [if_pos ⟨this, hl⟩, if_pos ⟨k, by omega, hl.symm⟩]
    · rw [if_neg (fun hh => hl hh.2), ih e]
      by_cases hx : ∃ i, i < k ∧ c i = lab e
      · obtain ⟨i, hi, hc⟩ := hx
        rw [if_pos ⟨i, hi, hc⟩, if_pos ⟨i, by omega, hc⟩]
      · rw [if_neg hx, if_neg]
        rintro ⟨i, hi, hc⟩
        rcases Nat.lt_succ_iff_lt_or_eq.1 hi with hi | rfl
        · exact hx ⟨i, hi, hc⟩
        · exact hl hc.symm

theorem Ext.mono (h : Ext s lab r m c) {k l : ℕ} (hkl : k ≤ l) : m k ≤ m l := by
  induction l, hkl using Nat.le_induction with
  | base => exact le_rfl
  | succ l _ ih =>
    refine ih.trans ?_
    obtain ⟨e, he, -⟩ := h.found (l + 1)
    rw [← he, h.next]
    split
    · exact le_top
    · exact h.least l e

/-- An extraction below `⊤` finds a position not found before, at its own value. -/
theorem Ext.fresh (h : Ext s lab r m c) {k : ℕ} (hk : m k ≠ ⊤) : (∀ i, i < k → c i ≠ c k) ∧ s (c k) = m k := by
  obtain ⟨e, h1, h2⟩ := h.found k
  rw [h.read] at h1
  split at h1
  · exact absurd h1.symm hk
  · rename_i hn
    rw [h2] at h1 hn
    exact ⟨fun i hi hc => hn ⟨i, hi, hc⟩, h1⟩

/-- If the selected positions are all among the entries, the extraction finds the selection. -/
theorem Ext.top (h : Ext s lab r m c) {p : Fin 16 → Fin 4096} (hp : Top s p) (ha : Apart s p)
    (hc : ∀ k, ∃ e, lab e = p k) (k : Fin 16) : c k.val = p k := by
  have fin : ∀ k, s (p k) ≠ ⊤ := fun k hk => by
    obtain ⟨j0, hj0⟩ : ∃ j0 : Fin 4096, ∀ i, p i ≠ j0 := by
      by_contra hn
      push Not at hn
      have := Fintype.card_le_of_surjective p hn
      simp at this
    have := lt_of_le_of_lt (hp.mono (Fin.le_last k)) (ha j0 hj0)
    rw [hk] at this
    exact absurd this not_top_lt
  have key : ∀ n : ℕ, ∀ k : Fin 16, k.val = n → c k.val = p k := by
    intro n
    induction n using Nat.strong_induction_on with
    | _ n ih =>
      intro k hk
      have e : ∀ i : Fin 16, i < k → c i.val = p i := fun i hi => ih i.val (by omega) i rfl
      obtain ⟨e1, he1⟩ := hc k
      have r1 : r k.val e1 = s (p k) := by
        rw [h.read, if_neg, he1]
        rintro ⟨i, hi, hh⟩
        have := e ⟨i, by omega⟩ hi
        exact (hp k).1 ⟨i, by omega⟩ hi (by rw [← this, ← he1, ← hh])
      have hm : m k.val ≤ s (p k) := r1 ▸ h.least k.val e1
      have hT : m k.val ≠ ⊤ := fun hh => fin k (top_le_iff.1 (hh ▸ hm))
      obtain ⟨f1, f2⟩ := h.fresh hT
      have h2 := (hp k).2 (c k.val) (fun i hi => by rw [← e i hi]; exact f1 i.val hi)
      rw [f2] at h2
      rcases h2 with h2 | ⟨h2, h3⟩
      · exact absurd h2 (not_lt.2 hm)
      · exact le_antisymm (he1 ▸ h.first k.val e1 (r1.trans h2)) h3
  exact key _ k rfl

/-- If some selected position is not among the entries, the sixteenth extracted value is above the sixteenth selected. -/
theorem Ext.missed (h : Ext s lab r m c) {p : Fin 16 → Fin 4096} (hp : Top s p) (ha : Apart s p)
    (hc : ¬ ∀ k, ∃ e, lab e = p k) : s (p 15) < m 15 := by
  by_contra hn
  have hm : m 15 ≤ s (p 15) := not_lt.1 hn
  have fin : s (p 15) ≠ ⊤ := fun hk => by
    obtain ⟨j0, hj0⟩ : ∃ j0 : Fin 4096, ∀ i, p i ≠ j0 := by
      by_contra hn
      push Not at hn
      have := Fintype.card_le_of_surjective p hn
      simp at this
    have := ha j0 hj0
    rw [hk] at this
    exact absurd this not_top_lt
  have mk : ∀ k : Fin 16, m k.val ≤ s (p 15) := fun k => (h.mono (by have := k.isLt; omega)).trans hm
  have hT : ∀ k : Fin 16, m k.val ≠ ⊤ := fun k hh => fin (top_le_iff.1 (hh ▸ mk k))
  have mem : ∀ k : Fin 16, ∃ l, p l = c k.val := fun k => by
    by_contra hx
    push Not at hx
    have := ha _ hx
    rw [(h.fresh (hT k)).2] at this
    exact absurd (mk k) (not_le.2 this)
  choose f hf using mem
  have finj : Function.Injective f := fun a b hab => by
    have e : c a.val = c b.val := by rw [← hf a, ← hf b, hab]
    rcases lt_trichotomy a b with hl | he | hl
    · exact absurd e ((h.fresh (hT b)).1 a.val hl)
    · exact he
    · exact absurd e.symm ((h.fresh (hT a)).1 b.val hl)
  refine hc fun k => ?_
  obtain ⟨l, rfl⟩ := (Finite.injective_iff_surjective.1 finj) k
  obtain ⟨e, -, he⟩ := h.found l.val
  exact ⟨e, by rw [he, hf]⟩

/-- Then at least sixteen scores are below the sixteenth extracted value. -/
theorem Ext.many (h : Ext s lab r m c) {p : Fin 16 → Fin 4096} (hp : Top s p) (ha : Apart s p)
    (hc : ¬ ∀ k, ∃ e, lab e = p k) : 16 ≤ (Finset.univ.filter fun j => s j < m 15).card := by
  have := h.missed hp ha hc
  have hsub : (Finset.univ.image p) ⊆ Finset.univ.filter fun j => s j < m 15 := by
    intro j hj
    obtain ⟨k, -, rfl⟩ := Finset.mem_image.1 hj
    exact Finset.mem_filter.2 ⟨Finset.mem_univ _, lt_of_le_of_lt (hp.mono (Fin.le_last k)) this⟩
  calc 16 = (Finset.univ.image p).card := by rw [Finset.card_image_of_injective _ hp.inj]; simp
    _ ≤ _ := Finset.card_le_card hsub

end Ext

/-! ## What a stable sort lists first -/

section Sorting
open Idealize.ShloMosaic

/-- First by value, then by position. -/
def Before (d : Fin 4096 → EReal) (a b : Fin 4096) : Prop := d a < d b ∨ (d a = d b ∧ a < b)

theorem before_insert {d : Fin 4096 → EReal} {R : Fin 4096 → Fin 4096 → Bool} (hR : ∀ a b, R a b = true ↔ d a < d b)
    (a : Fin 4096) (l : List (Fin 4096)) (ha : ∀ b ∈ l, a < b) (hl : l.Pairwise (Before d)) :
    (insertBefore R a l).Pairwise (Before d) := by
  induction l with
  | nil => simp [insertBefore]
  | cons b l ih =>
    obtain ⟨hb, hl'⟩ := List.pairwise_cons.mp hl
    unfold insertBefore
    split
    · rename_i h
      refine List.pairwise_cons.mpr ⟨fun x hx => ?_, ih (fun x hx => ha x (List.mem_cons_of_mem _ hx)) hl'⟩
      rcases List.mem_cons.mp ((perm_insertBefore _ a l).mem_iff.mp hx) with rfl | hx'
      · exact .inl ((hR _ _).1 h)
      · exact hb x hx'
    · rename_i h
      have hab : d a ≤ d b := not_lt.1 fun hh => h ((hR _ _).2 hh)
      refine List.pairwise_cons.mpr ⟨fun x hx => ?_, hl⟩
      have hle : d a ≤ d x := by
        rcases List.mem_cons.mp hx with rfl | hx'
        · exact hab
        · rcases hb x hx' with h1 | h1
          · exact hab.trans h1.le
          · exact hab.trans h1.1.le
      rcases hle.lt_or_eq with h1 | h1
      · exact .inl h1
      · exact .inr ⟨h1, ha x hx⟩

theorem before_sort {d : Fin 4096 → EReal} {R : Fin 4096 → Fin 4096 → Bool} (hR : ∀ a b, R a b = true ↔ d a < d b)
    (l : List (Fin 4096)) (hl : l.Pairwise (· < ·)) : (stableSort R l).Pairwise (Before d) := by
  induction l with
  | nil => simp [stableSort]
  | cons a l ih =>
    obtain ⟨ha, hl'⟩ := List.pairwise_cons.mp hl
    unfold stableSort
    exact before_insert hR a _ (fun b hb => ha b ((perm_stableSort _ l).mem_iff.mp hb)) (ih hl')

theorem before_get {n : ℕ} {R : Fin n → Fin n → Bool} {P : Fin n → Fin n → Prop} {i j : Fin n}
    (hij : i < j) (h : (sortPositions n R).Pairwise P) : P (sortedFrom R i) (sortedFrom R j) :=
  List.pairwise_iff_get.1 h _ _ hij

theorem before_sortedFrom {d : Fin 4096 → EReal} {R : Fin 4096 → Fin 4096 → Bool} (hR : ∀ a b, R a b = true ↔ d a < d b)
    {i j : Fin 4096} (hij : i < j) : Before d (sortedFrom R i) (sortedFrom R j) :=
  before_get hij (before_sort hR (List.finRange 4096) (List.pairwise_lt_finRange 4096))

/-- The first sixteen that the stable sort by `d` lists. -/
theorem top_sortedFrom {d : Fin 4096 → EReal} {R : Fin 4096 → Fin 4096 → Bool} (hR : ∀ a b, R a b = true ↔ d a < d b) :
    Top d fun k : Fin 16 => sortedFrom R ⟨k.val, by omega⟩ := fun k => by
  refine ⟨fun i hi e => ?_, fun j hj => ?_⟩
  · have := congrArg Fin.val (sortedFrom_injective R e)
    simp only at this; omega
  · obtain ⟨l, rfl⟩ := sortedFrom_surjective R j
    have hkl : k.val ≤ l.val := by
      by_contra hn
      exact hj ⟨l.val, by omega⟩ (by simp [Fin.lt_def]; omega) rfl
    rcases hkl.lt_or_eq with h1 | h1
    · rcases before_sortedFrom hR (i := ⟨k.val, by omega⟩) (j := l) h1 with h2 | h2
      · exact .inl h2
      · exact .inr ⟨h2.1, h2.2.le⟩
    · have : (⟨k.val, by omega⟩ : Fin 4096) = l := Fin.ext h1
      exact .inr ⟨congrArg (fun x => d (sortedFrom R x)) this, (congrArg (sortedFrom R) this).le⟩

/-- They are apart from the rest if the seventeenth is above the sixteenth. -/
theorem apart_sortedFrom {d : Fin 4096 → EReal} {R : Fin 4096 → Fin 4096 → Bool} (hR : ∀ a b, R a b = true ↔ d a < d b)
    (h : d (sortedFrom R ⟨15, by omega⟩) < d (sortedFrom R ⟨16, by omega⟩)) :
    Apart d fun k : Fin 16 => sortedFrom R ⟨k.val, by omega⟩ := fun j hj => by
  obtain ⟨l, rfl⟩ := sortedFrom_surjective R j
  have hl : 16 ≤ l.val := by
    by_contra hn
    exact hj ⟨l.val, by omega⟩ rfl
  refine lt_of_lt_of_le h ?_
  rcases hl.lt_or_eq with h1 | h1
  · rcases before_sortedFrom hR (i := ⟨16, by omega⟩) (j := l) h1 with h2 | h2
    · exact h2.le
    · exact h2.1.le
  · have : (⟨16, by omega⟩ : Fin 4096) = l := Fin.ext h1
    rw [this]

end Sorting

end Cert.Proof.Nearest

end
-- ==== Proof.ReadIdeal.lean ====
/-
  The body's extraction read at the ideal values: row minima, the columns at which they stand, and the values with that
  column struck out.
-/
module

public import proofs.«01_k».proof.Proof.WalkIdeal
public import proofs.«01_k».proof.Proof.Nearest
public import Idealize.ShloMosaic.Lib.Pointwise.Tactic
public import Idealize.ShloMosaic.Lib.Pointwise.Reduce
public import Idealize.ShloMosaic.Lib.Pointwise.ReduceUnfold
public import Idealize.ShloMosaic.Lib.Pointwise.Reshape
public import Idealize.ShloMosaic.Lib.Pointwise.ShapeOps
public import Idealize.ShloMosaic.Lib.Pointwise.Elementwise
public import Idealize.ShloMosaic.Lib.Pointwise.Select
public import Idealize.ShloMosaic.Lib.Pointwise.Contract
public import Idealize.ShloMosaic.Lib.IdealHost
public import Idealize.ShloMosaic.Lib.ValueIdx

@[expose] public section

namespace Cert.Proof.KnnIdeal

open Cert.KernelIdeal Cert.KernelIdeal.Gen
open Idealize Idealize.ShloMosaic

/-- A natural number as an ideal value. -/
def num (n : ℕ) : EReal := ((n : ℝ) : EReal)

theorem num_inj {a b : ℕ} : num a = num b ↔ a = b := by
  unfold num; rw [EReal.coe_eq_coe_iff]; exact Nat.cast_inj
theorem num_le {a b : ℕ} : num a ≤ num b ↔ a ≤ b := by
  unfold num; rw [EReal.coe_le_coe_iff]; exact Nat.cast_le
theorem num_ne_top (a : ℕ) : num a ≠ ⊤ := EReal.coe_ne_top _

theorem bits_top : Ideal.ofBits .f32 0x7F800000#32 = ⊤ := by
  simp [Ideal.ofBits, Ideal.ieee, -EReal.coe_mul]
theorem bits_full : Ideal.ofBits .f32 0x45800000#32 = num 4096 := by
  simp [num, Ideal.ofBits, Ideal.ieee, -EReal.coe_mul]; norm_num

theorem oeq_select (a b : EReal) (x y : EReal) :
    Scalar.select (FloatOps.cmpf (F := Ideal) (φ := .f32) CmpFPredicate.oeq a b) x y = if a = b then x else y := by
  show (if (BitVec.ofBool (decide (a = b))) = 1 then x else y) = _
  by_cases h : a = b <;> simp [h]

theorem mC_apply (rv : FVec Ideal S512x512 .f32) (q : Fin 512) (u : Fin 1) :
    mC rv (ix2 q u) = Finset.univ.fold min ⊤ (fun k : Fin 512 => rv (ix2 q k)) := by
  simp [mC, pointwise, multiReduction_minimumf_eq_fold]
  exact congrArg (fun b => Finset.fold min b _ _) bits_top

theorem ccC_apply (col rv : FVec Ideal S512x512 .f32) (q k : Fin 512) :
    ccC col rv (ix2 q k) = if rv (ix2 q k) = mC rv (ix2 q 0) then col (ix2 q k) else num 4096 := by
  simp [ccC, pointwise, oeq_select, bits_full]

theorem cC_apply (col rv : FVec Ideal S512x512 .f32) (q : Fin 512) (u : Fin 1) :
    cC col rv (ix2 q u) = Finset.univ.fold min ⊤ (fun k : Fin 512 => ccC col rv (ix2 q k)) := by
  simp [cC, pointwise, multiReduction_minimumf_eq_fold]
  exact congrArg (fun b => Finset.fold min b _ _) bits_top

theorem rowC_apply (col rv : FVec Ideal S512x512 .f32) (q : Fin 512) :
    rowC col rv (ix3 0 0 q) = Ideal.fptosi 32 (cC col rv (ix2 q 0)) := by
  simp [rowC, pointwise]; rfl

theorem nxC_apply (col rv : FVec Ideal S512x512 .f32) (q k : Fin 512) :
    nxC col rv (ix2 q k) = if ccC col rv (ix2 q k) = cC col rv (ix2 q 0) then ⊤ else rv (ix2 q k) := by
  simp [nxC, pointwise, oeq_select, bits_top]

theorem mF_apply (rv : FVec Ideal S512x4096 .f32) (q : Fin 512) (u : Fin 1) :
    mF rv (ix2 q u) = Finset.univ.fold min ⊤ (fun k : Fin 4096 => rv (ix2 q k)) := by
  simp [mF, pointwise, multiReduction_minimumf_eq_fold]
  exact congrArg (fun b => Finset.fold min b _ _) bits_top

theorem ccF_apply (col rv : FVec Ideal S512x4096 .f32) (q : Fin 512) (k : Fin 4096) :
    ccF col rv (ix2 q k) = if rv (ix2 q k) = mF rv (ix2 q 0) then col (ix2 q k) else num 4096 := by
  simp [ccF, pointwise, oeq_select, bits_full]

theorem cF_apply (col rv : FVec Ideal S512x4096 .f32) (q : Fin 512) (u : Fin 1) :
    cF col rv (ix2 q u) = Finset.univ.fold min ⊤ (fun k : Fin 4096 => ccF col rv (ix2 q k)) := by
  simp [cF, pointwise, multiReduction_minimumf_eq_fold]
  exact congrArg (fun b => Finset.fold min b _ _) bits_top

theorem rowF_apply (col rv : FVec Ideal S512x4096 .f32) (q : Fin 512) :
    rowF col rv (ix3 0 0 q) = Ideal.fptosi 32 (cF col rv (ix2 q 0)) := by
  simp [rowF, pointwise]; rfl

theorem nxF_apply (col rv : FVec Ideal S512x4096 .f32) (q : Fin 512) (k : Fin 4096) :
    nxF col rv (ix2 q k) = if ccF col rv (ix2 q k) = cF col rv (ix2 q 0) then ⊤ else rv (ix2 q k) := by
  simp [nxF, pointwise, oeq_select, bits_top]

theorem toInt_small (n : ℕ) (h : n < 2 ^ 31) : (BitVec.ofNat 32 n).toInt = n := by
  rw [BitVec.toInt_eq_toNat_of_lt (by rw [BitVec.toNat_ofNat]; omega), BitVec.toNat_ofNat]; omega

theorem sitofp_small (n : ℕ) (h : n < 2 ^ 31) :
    (FloatOps.sitofp (F := Ideal) FTy.f32 (BitVec.ofNat 32 n) : EReal) = num n := by
  show (((BitVec.ofNat 32 n).toInt : ℝ) : EReal) = _
  rw [toInt_small n h]; simp [num]

theorem colF_apply (q : Fin 512) (k : Fin 4096) : (colF : FVec Ideal S512x4096 .f32) (ix2 q k) = num k.val := by
  simp [colF, pointwise]
  exact sitofp_small k.val (by omega)

theorem kbits_apply (t : Fin 32) : Ideal.ofBits .f32 (kbits t) = num (128 * t.val) := by
  fin_cases t <;> simp [num, kbits, Ideal.ofBits, Ideal.ieee, -EReal.coe_mul] <;> norm_num

/-- A candidate pair at a position: a score and its column. -/
theorem Cand.read {sc : FVec Ideal S512x4096 .f32} {v c : FVec Ideal S512x128 .f32} (h : Cand sc v c) (q : Fin 512) (u : Fin 128) :
    ∃ l : Fin 4096, v (ix2 q u) = sc (ix2 q l) ∧ c (ix2 q u) = num l.val := by
  obtain ⟨t, w, h1, h2⟩ := h (ix2 q u)
  refine ⟨⟨128 * t.val + u.val, by omega⟩, ?_, ?_⟩
  · rw [h1]; simp [pointwise]
  · have e : addf (sitofp .f32 (iota .tc S512x128 32 [1] iota_S512x128_d1_w32)) (broadcast S512x128 (Scalar.ofBits .f32 (kbits t) : Ideal .f32)) (ix2 q u)
        = FloatOps.sitofp (F := Ideal) .f32 (BitVec.ofNat 32 u.val) + Ideal.ofBits .f32 (kbits t) := by
      simp [pointwise]
    rw [h2, e, sitofp_small _ (by omega), kbits_apply, num, num, num, ← EReal.coe_add]
    congr 1; push_cast; ring

/-- The candidates of a row: scores, with their columns. -/
theorem Cands.read {sc : FVec Ideal S512x4096 .f32} {red col : FVec Ideal S512x512 .f32} (h : Cands sc red col) (q e : Fin 512) :
    ∃ l : Fin 4096, red (ix2 q e) = sc (ix2 q l) ∧ col (ix2 q e) = num l.val := by
  obtain ⟨v0, c0, v1, c1, v2, c2, v3, c3, h0, h1, h2, h3, rfl, rfl⟩ := h
  simp [pointwise]
  split_ifs <;> first | exact h0.read q _ | exact h1.read q _ | exact h2.read q _ | exact h3.read q _

/-! ## The extraction -/

theorem fold_min_spec {n : ℕ} [NeZero n] (f : Fin n → EReal) :
    (∀ k, Finset.univ.fold min ⊤ f ≤ f k) ∧ ∃ k, f k = Finset.univ.fold min ⊤ f := by
  refine ⟨fun k => (Finset.fold_min_le _).2 (.inr ⟨k, Finset.mem_univ _, le_rfl⟩), ?_⟩
  obtain ⟨k, -, hk⟩ := Finset.exists_min_image (Finset.univ : Finset (Fin n)) f ⟨0, Finset.mem_univ _⟩
  exact ⟨k, le_antisymm (Finset.le_fold_min _ |>.2 ⟨le_top, fun x hx => hk x hx⟩)
    ((Finset.fold_min_le _).2 (.inr ⟨k, Finset.mem_univ _, le_rfl⟩))⟩

/-- The steps of an extraction over `n` values that carry positions make an extraction, whose positions are the column
    numbers that the steps find. -/
theorem ext_of_steps {n : ℕ} [NeZero n] (s : Fin 4096 → EReal) (lab : Fin n → Fin 4096) (r cc : ℕ → Fin n → EReal) (m cv : ℕ → EReal)
    (h0 : ∀ e, r 0 e = s (lab e)) (hm : ∀ k, m k = Finset.univ.fold min ⊤ (r k))
    (hcc : ∀ k e, cc k e = if r k e = m k then num (lab e).val else num 4096)
    (hcv : ∀ k, cv k = Finset.univ.fold min ⊤ (cc k))
    (hr : ∀ k e, r (k + 1) e = if cc k e = cv k then ⊤ else r k e) :
    ∃ c : ℕ → Fin 4096, Nearest.Ext s lab r m c ∧ ∀ k, cv k = num (c k).val := by
  have key : ∀ k, ∃ c : Fin 4096, cv k = num c.val ∧ (∃ e, r k e = m k ∧ lab e = c) ∧ ∀ e, r k e = m k → c ≤ lab e := fun k => by
    obtain ⟨e0, he0⟩ := (fold_min_spec (r k)).2
    rw [← hm] at he0
    obtain ⟨e1, he1⟩ := (fold_min_spec (cc k)).2
    have le := (fold_min_spec (cc k)).1
    rw [← hcv] at he1 le
    have h1 : r k e1 = m k := by
      by_contra hn
      rw [hcc, if_neg hn] at he1
      have := le e0
      rw [← he1, hcc, if_pos he0, num_le] at this
      omega
    rw [hcc, if_pos h1] at he1
    refine ⟨lab e1, he1.symm, ⟨e1, h1, rfl⟩, fun e he => ?_⟩
    have := le e
    rw [hcc, if_pos he, ← he1, num_le] at this
    exact this
  choose c h1 h2 h3 using key
  refine ⟨c, ⟨h0, fun k e => hm k ▸ (fold_min_spec (r k)).1 e, fun k e he => h3 k e he, h2, fun k e => ?_⟩, h1⟩
  rw [hr, hcc, h1]
  refine if_congr ?_ rfl rfl
  by_cases he : r k e = m k
  · rw [if_pos he, num_inj]; exact ⟨fun h => ⟨he, Fin.ext h⟩, fun h => congrArg Fin.val h.2⟩
  · rw [if_neg he, num_inj]; exact ⟨fun h => absurd h (by have := (c k).isLt; omega), fun h => absurd h.1 he⟩

/-- The extraction over the candidates of row `q`. -/
theorem ext_C {red col : FVec Ideal S512x512 .f32} {s : Fin 4096 → EReal} {q : Fin 512} {lab : Fin 512 → Fin 4096}
    (h1 : ∀ e, red (ix2 q e) = s (lab e)) (h2 : ∀ e, col (ix2 q e) = num (lab e).val) :
    ∃ c : ℕ → Fin 4096, Nearest.Ext s lab (fun k e => itC col red k (ix2 q e)) (fun k => mC (itC col red k) (ix2 q 0)) c
      ∧ ∀ k, cC col (itC col red k) (ix2 q 0) = num (c k).val :=
  ext_of_steps s lab _ (fun k e => ccC col (itC col red k) (ix2 q e)) _ _ h1 (fun _ => mC_apply _ _ _)
    (fun k e => by rw [ccC_apply, h2]) (fun _ => cC_apply _ _ _ _) (fun k e => by rw [itC_succ, nxC_apply])

/-- The extraction over all the scores of row `q`. -/
theorem ext_F (sc : FVec Ideal S512x4096 .f32) (q : Fin 512) :
    ∃ c : ℕ → Fin 4096, Nearest.Ext (fun j => sc (ix2 q j)) id (fun k e => itF colF sc k (ix2 q e)) (fun k => mF (itF colF sc k) (ix2 q 0)) c
      ∧ ∀ k, cF colF (itF colF sc k) (ix2 q 0) = num (c k).val :=
  ext_of_steps _ id _ (fun k e => ccF colF (itF colF sc k) (ix2 q e)) _ _ (fun _ => rfl) (fun _ => mF_apply _ _ _)
    (fun k e => by rw [ccF_apply, colF_apply]; rfl) (fun _ => cF_apply _ _ _ _) (fun k e => by rw [itF_succ, nxF_apply])

theorem fptosi_num (n : ℕ) (h : n < 2 ^ 31) : Ideal.fptosi 32 (num n) = BitVec.ofNat 32 n := by
  rw [Ideal.fptosi, num, Ideal.toIntClamped_coe, if_pos (Nat.cast_nonneg _), Int.floor_natCast]
  rw [show max (-((2 ^ (32 - 1) : ℕ) : ℤ)) (min (((2 ^ (32 - 1) : ℕ) : ℤ) - 1) (n : ℤ)) = n by norm_num; omega]
  exact BitVec.ofInt_natCast _ _

/-! ## The test -/

theorem num_add (a b : ℕ) : num a + num b = num (a + b) := by
  unfold num; rw [← EReal.coe_add, Nat.cast_add]
theorem num_zero : num 0 = 0 := by simp [num]
theorem num_sum {ι : Type} (S : Finset ι) (f : ι → ℕ) : ∑ i ∈ S, num (f i) = num (∑ i ∈ S, f i) := by
  classical
  induction S using Finset.induction_on with
  | empty => simp [num_zero]
  | insert a S ha ih => rw [Finset.sum_insert ha, Finset.sum_insert ha, ih, num_add]

theorem olt_num (a b : EReal) :
    (FloatOps.sitofp (F := Ideal) .f32 (BitVec.setWidth 32 (BitVec.ofBool (decide (a < b)))) : EReal) = num (if a < b then 1 else 0) := by
  by_cases h : a < b
  · simp only [h, decide_true, if_true]; exact sitofp_small 1 (by omega)
  · simp only [h, decide_false, if_false]; exact sitofp_small 0 (by omega)

theorem none_num : (FloatOps.sitofp (F := Ideal) .f32 0#32 : EReal) = num 0 := sitofp_small 0 (by omega)

/-- The body's count of minima below the last is at most fifteen. -/
theorem nlt_le (mm : ℕ → FVec Ideal S512x1 .f32) (q : Fin 512) : ∃ n ≤ 15, nlt mm (ix2 q 0) = num n := by
  simp only [nlt, k0_pay588, pointwise]
  simp [olt_num, none_num, num_add]
  refine ⟨_, ?_, rfl⟩
  have : ∀ k, (if mm k (ix2 q 0) < mm 15 (ix2 q 0) then 1 else 0) ≤ 1 := fun k => by split <;> omega
  have h0 := this 0; have h1 := this 1; have h2 := this 2; have h3 := this 3; have h4 := this 4; have h5 := this 5
  have h6 := this 6; have h7 := this 7; have h8 := this 8; have h9 := this 9; have h10 := this 10; have h11 := this 11
  have h12 := this 12; have h13 := this 13; have h14 := this 14
  omega

theorem bits_bot : Ideal.ofBits .f32 0xFF800000#32 = ⊥ := by
  simp [Ideal.ofBits, Ideal.ieee, -EReal.coe_mul]

theorem count_num (f : Fin 4096 → EReal) (b : EReal) :
    ∑ k : Fin 4096, (FloatOps.sitofp (F := Ideal) .f32 (BitVec.setWidth 32 (BitVec.ofBool (decide (f k < b)))) : EReal)
      = num (Finset.univ.filter fun j => f j < b).card := by
  rw [Finset.card_filter, ← num_sum]
  exact Finset.sum_congr rfl fun k _ => olt_num _ _

/-- The body's test value: the greatest over the rows of 1 where the two counts differ. -/
theorem pay1_apply (sc : FVec Ideal S512x4096 .f32) (m n : FVec Ideal S512x1 .f32) :
    k0_pay1 sc m n = Finset.univ.fold max ⊥ fun x : Fin 512 × Fin 1 =>
      if num (Finset.univ.filter fun j => sc (ix2 x.1 j) < m (ix2 x.1 0)).card ≠ n (ix2 x.1 0) then 1 else 0 := by
  simp only [k0_pay1, pointwise, multiReduction_maximumf_eq_fold]
  refine (congrArg (fun b => Finset.fold max b _ _) bits_bot).trans (congrArg (fun f => Finset.fold max ⊥ f Finset.univ) (funext fun x => ?_))
  exact if_congr (by rw [← count_num]; rfl) rfl rfl

theorem test_pos {x : EReal} (h : 0 < x) :
    Scalar.cmpi .ne (Scalar.extui (Scalar.cmpf (F := Ideal) (φ := .f32) .ogt x (Scalar.ofBits .f32 0x00000000#32 : Ideal .f32)) : BitVec 32) 0#32 = 1#1 := by
  have e : Scalar.cmpf (F := Ideal) (φ := .f32) .ogt x (Scalar.ofBits .f32 0x00000000#32 : Ideal .f32) = 1#1 := by
    show BitVec.ofBool (decide (Ideal.ofBits .f32 0x00000000#32 < x)) = 1#1
    rw [Ideal.ofBits_zero_f32, decide_eq_true h]; rfl
  rw [e]; rfl

/-- If the body's test is not met, the two counts of every row agree. -/
theorem eq_of_not_bad {sc : FVec Ideal S512x4096 .f32} {red col : FVec Ideal S512x512 .f32} (q : Fin 512) (h : ¬ Bad sc red col) :
    num (Finset.univ.filter fun j => sc (ix2 q j) < mC (itC col red 15) (ix2 q 0)).card
      = nlt (fun k => mC (itC col red k)) (ix2 q 0) := by
  by_contra hn
  refine h ?_
  have hpos : (0 : EReal) < k0_pay1 sc (mC (itC col red 15)) (nlt fun k => mC (itC col red k)) := by
    rw [pay1_apply]
    refine lt_of_lt_of_le zero_lt_one ((Finset.le_fold_max _).2 (.inr ⟨(q, 0), Finset.mem_univ _, ?_⟩))
    rw [if_pos hn]
  unfold Bad
  generalize k0_pay1 sc (mC (itC col red 15)) (nlt fun k => mC (itC col red k)) = x at hpos
  exact test_pos hpos

/-- What the body leaves, read: where the sixteen nearest of row `q` stand apart from the rest, their positions. -/
theorem Post.read {sc : FVec Ideal S512x4096 .f32} {o : Vec Ideal S1x16x512 .i32} (h : Post sc o) (q : Fin 512)
    {p : Fin 16 → Fin 4096} (hp : Nearest.Top (fun j => sc (ix2 q j)) p) (ha : Nearest.Apart (fun j => sc (ix2 q j)) p)
    (k : Fin 16) : o (ix3 0 k q) = BitVec.ofNat 32 (p k).val := by
  obtain ⟨red, col, hc, hg, hb⟩ := h
  by_cases hB : Bad sc red col
  · obtain ⟨c, h1, h2⟩ := ext_F sc q
    rw [hb hB]
    show rowF colF (itF colF sc k.val) (ix3 0 0 q) = _
    rw [rowF_apply, h2, h1.top hp ha (fun k => ⟨p k, rfl⟩), fptosi_num _ (by omega)]
  · choose lab hl1 hl2 using hc.read q
    obtain ⟨c, h1, h2⟩ := ext_C (s := fun j => sc (ix2 q j)) hl1 hl2
    rw [hg hB]
    show rowC col (itC col red k.val) (ix3 0 0 q) = _
    have hcov : ∀ k, ∃ e, lab e = p k := by
      by_contra hn
      have many := h1.many hp ha hn
      obtain ⟨n, hn15, hn⟩ := nlt_le (fun k => mC (itC col red k)) q
      have e := (eq_of_not_bad q hB).trans hn
      rw [num_inj] at e
      omega
    rw [rowC_apply, h2, h1.top hp ha hcov, fptosi_num _ (by omega)]

end Cert.Proof.KnnIdeal

end
-- ==== Proof.RefIdeal.lean ====
/-
  The reference read at the ideal values: the distances it forms, and the positions its top-k lists; and what the
  precondition says of the same distances.
-/
module

public import proofs.«01_k».proof.Proof.Nearest
public import proofs.«01_k».proof.Pre_sixteenth_apart
public import proofs.«01_k».proof.Proof.Gen.ReferenceIdeal.Run
public import Idealize.ShloMosaic.Lib.Pointwise.Tactic
public import Idealize.ShloMosaic.Lib.Pointwise.Reduce
public import Idealize.ShloMosaic.Lib.Pointwise.ReduceUnfold
public import Idealize.ShloMosaic.Lib.Pointwise.Reshape
public import Idealize.ShloMosaic.Lib.Pointwise.ShapeOps
public import Idealize.ShloMosaic.Lib.Pointwise.Elementwise
public import Idealize.ShloMosaic.Lib.Pointwise.Select
public import Idealize.ShloMosaic.Lib.Pointwise.Contract
public import Idealize.ShloMosaic.Lib.IdealHost
public import Idealize.ShloMosaic.Lib.ValueIdx

@[expose] public section

namespace Cert.Proof.KnnRef

open Idealize Idealize.ShloMosaic

/-- The squared distance of reference point `j` from query `q` of batch `b`, as the reference forms it. -/
noncomputable def dist (A B : (⟨3, ![4, 256, 4096]⟩ : Shape).Idx → EReal) (b : Fin 4) (q j : Fin 4096) : EReal :=
  (∑ c : Fin 256, A (ix3 b c j) * A (ix3 b c j)) + (∑ c : Fin 256, B (ix3 b c q) * B (ix3 b c q))
    - Ideal.ofBits .f32 0x40000000#32 * ∑ c : Fin 256, A (ix3 b c j) * B (ix3 b c q)

/-! ## A top-k along the last axis -/

/-- The order a top-k sorts by. -/
noncomputable def ord (x : (⟨3, ![4, 4096, 4096]⟩ : Shape).Idx → EReal) (b : Fin 4) (q : Fin 4096) (k k' : Fin 4096) : Bool :=
  FloatOps.cmpfTotal (F := Ideal) (φ := .f32) .gt (x (ix3 b q k)) (x (ix3 b q k')) == 1#1

theorem ord_iff (x : (⟨3, ![4, 4096, 4096]⟩ : Shape).Idx → EReal) (b : Fin 4) (q k k' : Fin 4096) :
    ord x b q k k' = true ↔ x (ix3 b q k') < x (ix3 b q k) := by
  show (BitVec.ofBool (decide (x (ix3 b q k') < x (ix3 b q k))) == 1#1) = true ↔ _
  by_cases h : x (ix3 b q k') < x (ix3 b q k) <;> simp [h]

theorem along_ix3 (b : Fin 4) (q k k' : Fin 4096) :
    (ix3 b q k : (⟨3, ![4, 4096, 4096]⟩ : Shape).Idx).along 2 k' = ix3 b q k' := by
  funext a
  match a with
  | ⟨0, _⟩ => rfl
  | ⟨1, _⟩ => rfl
  | ⟨2, _⟩ => rfl

theorem sort_ix3 (x : (⟨3, ![4, 4096, 4096]⟩ : Shape).Idx → EReal) (b : Fin 4) (q k : Fin 4096) :
    (ix3 b q k : (⟨3, ![4, 4096, 4096]⟩ : Shape).Idx).along 2 (sortedFrom (fun l l' => FloatOps.cmpfTotal (F := Ideal) (φ := .f32) CmpDirection.gt
      (x ((ix3 b q k : (⟨3, ![4, 4096, 4096]⟩ : Shape).Idx).along 2 l)) (x ((ix3 b q k : (⟨3, ![4, 4096, 4096]⟩ : Shape).Idx).along 2 l')) == 1#1) k)
      = ix3 b q (sortedFrom (ord x b q) k) := by
  have h1 : (fun l l' => FloatOps.cmpfTotal (F := Ideal) (φ := .f32) CmpDirection.gt
      (x ((ix3 b q k : (⟨3, ![4, 4096, 4096]⟩ : Shape).Idx).along 2 l)) (x ((ix3 b q k : (⟨3, ![4, 4096, 4096]⟩ : Shape).Idx).along 2 l')) == 1#1) = ord x b q := by
    funext l l'
    exact congrArg₂ (fun u v => FloatOps.cmpfTotal (F := Ideal) (φ := .f32) CmpDirection.gt (x u) (x v) == 1#1) (along_ix3 b q k l) (along_ix3 b q k l')
  exact (along_ix3 b q k _).trans (congrArg (fun R => ix3 b q (sortedFrom R k)) h1)

theorem topK_vals {K : ℕ} (x : (⟨3, ![4, 4096, 4096]⟩ : Shape).Idx → EReal)
    (h : (⟨3, ![4, 4096, 4096]⟩ : Shape).Slices (fun _ => 0) ⟨3, ![4, 4096, K]⟩) (b : Fin 4) (q : Fin 4096) (k : Fin K) (hk : k.val < 4096) :
    (Host.topK ⟨3, ![4, 4096, K]⟩ 2 (FloatOps.cmpfTotal (F := Ideal) (φ := .f32) .gt) x h).1 (ix3 b q k)
      = x (ix3 b q (sortedFrom (ord x b q) ⟨k.val, hk⟩)) := by
  unfold Host.topK Host.sort2
  simp only [pointwise]
  rw [dif_pos (by omega)]
  have e : (ix3 ⟨0 + b.val, by omega⟩ ⟨0 + q.val, by omega⟩ ⟨0 + k.val, by omega⟩ : (⟨3, ![4, 4096, 4096]⟩ : Shape).Idx) = ix3 b q ⟨k.val, hk⟩ := by
    congr 1 <;> (apply Fin.ext; simp)
  refine (congrArg (fun i : (⟨3, ![4, 4096, 4096]⟩ : Shape).Idx => x (i.along 2 (sortedFrom (fun k k' => FloatOps.cmpfTotal (F := Ideal) (φ := .f32) CmpDirection.gt (x (i.along 2 k)) (x (i.along 2 k')) == 1#1) (i 2)))) e).trans ?_
  exact congrArg x (sort_ix3 x b q ⟨k.val, hk⟩)

/-- The position listed at an index, as a word. -/
noncomputable def idxAt (x : (⟨3, ![4, 4096, 4096]⟩ : Shape).Idx → EReal) (i : (⟨3, ![4, 4096, 4096]⟩ : Shape).Idx) : BitVec 32 :=
  BitVec.ofNat 32 (i.along 2 (sortedFrom (fun k k' => FloatOps.cmpfTotal (F := Ideal) (φ := .f32) CmpDirection.gt (x (i.along 2 k)) (x (i.along 2 k')) == 1#1) (i 2)) 2).val

theorem last_ix3 (b : Fin 4) (q k : Fin 4096) : ((ix3 b q k : (⟨3, ![4, 4096, 4096]⟩ : Shape).Idx) 2).val = k.val := rfl

theorem idxAt_ix3 (x : (⟨3, ![4, 4096, 4096]⟩ : Shape).Idx → EReal) (b : Fin 4) (q k : Fin 4096) :
    idxAt x (ix3 b q k) = BitVec.ofNat 32 (sortedFrom (ord x b q) k).val := by
  have h : ((ix3 b q k : (⟨3, ![4, 4096, 4096]⟩ : Shape).Idx).along 2 (sortedFrom (fun l l' => FloatOps.cmpfTotal (F := Ideal) (φ := .f32) CmpDirection.gt
      (x ((ix3 b q k : (⟨3, ![4, 4096, 4096]⟩ : Shape).Idx).along 2 l)) (x ((ix3 b q k : (⟨3, ![4, 4096, 4096]⟩ : Shape).Idx).along 2 l')) == 1#1) k) 2).val
      = (sortedFrom (ord x b q) k).val :=
    (congrArg (fun i : (⟨3, ![4, 4096, 4096]⟩ : Shape).Idx => (i 2).val) (sort_ix3 x b q k)).trans (last_ix3 b q _)
  unfold idxAt
  generalize (sortedFrom (ord x b q) k).val = n at h
  subst h
  rfl

theorem topK_idx {K : ℕ} (x : (⟨3, ![4, 4096, 4096]⟩ : Shape).Idx → EReal)
    (h : (⟨3, ![4, 4096, 4096]⟩ : Shape).Slices (fun _ => 0) ⟨3, ![4, 4096, K]⟩) (b : Fin 4) (q : Fin 4096) (k : Fin K) (hk : k.val < 4096) :
    (Host.topK ⟨3, ![4, 4096, K]⟩ 2 (FloatOps.cmpfTotal (F := Ideal) (φ := .f32) .gt) x h).2 (ix3 b q k)
      = BitVec.ofNat 32 (sortedFrom (ord x b q) ⟨k.val, hk⟩).val := by
  unfold Host.topK Host.sort2
  simp only [pointwise]
  rw [dif_pos (by omega)]
  have e : (ix3 ⟨0 + b.val, by omega⟩ ⟨0 + q.val, by omega⟩ ⟨0 + k.val, by omega⟩ : (⟨3, ![4, 4096, 4096]⟩ : Shape).Idx) = ix3 b q ⟨k.val, hk⟩ := by
    congr 1 <;> (apply Fin.ext; simp)
  refine (congrArg (idxAt x) e).trans ?_
  exact idxAt_ix3 x b q ⟨k.val, hk⟩

section Reference
open Cert.ReferenceIdeal Cert.ReferenceIdeal.Gen

/-- The negated distances, as the reference writes them. -/
noncomputable def negd (A B : FVec Ideal S4x256x4096 .f32) : FVec Ideal S4x4096x4096 .f32 :=
  (Host.negf (transpose S4x4096x4096 [0, 2, 1] (subf (addf (broadcastInDim S4x4096x4096 ![0, 1, 2] bcast_S4x4096x1_S4x4096x4096_0_1_2 (broadcastInDim S4x4096x1 ![0, 1] bcast_S4x4096_S4x4096x1_0_1 (Host.reduceAdd (mulf A A) (constant S_ .f32 0x00000000#32) reducesTo_S4x256x4096_S4x4096_d1 h_S_))) (broadcastInDim S4x4096x4096 ![0, 1, 2] bcast_S4x1x4096_S4x4096x4096_0_1_2 (broadcastInDim S4x1x4096 ![0, 2] bcast_S4x4096_S4x1x4096_0_2 (Host.reduceAdd (mulf B B) (constant S_ .f32 0x00000000#32) reducesTo_S4x256x4096_S4x4096_d1 h_S_)))) (mulf (broadcastInDim S4x4096x4096 ![] bcast_S_S4x4096x4096 (constant S_ .f32 0x40000000#32)) (Host.dotGeneral dot_S4x4096x256_S4x256x4096_S4x4096x4096_2_1_1_2_0_0 none (transpose S4x4096x256 [0, 2, 1] A transposes_S4x256x4096_S4x4096x256_0_2_1) B))) transposes_S4x4096x4096_S4x4096x4096_0_2_1))

theorem negd_apply (A B : FVec Ideal S4x256x4096 .f32) (b : Fin 4) (q j : Fin 4096) :
    negd A B (ix3 b q j) = - dist A B b q j := by
  simp only [negd, pointwise, zero_add]
  rfl

/-- The positions that the reference lists for query `q` of batch `b`. -/
noncomputable def near (A B : FVec Ideal S4x256x4096 .f32) (b : Fin 4) (q : Fin 4096) (k : Fin 16) : Fin 4096 :=
  sortedFrom (ord (negd A B) b q) ⟨k.val, by omega⟩

theorem ord_negd (A B : FVec Ideal S4x256x4096 .f32) (b : Fin 4) (q k k' : Fin 4096) :
    ord (negd A B) b q k k' = true ↔ dist A B b q k < dist A B b q k' := by
  rw [ord_iff, negd_apply, negd_apply, EReal.neg_lt_neg_iff]

/-- They are the sixteen nearest. -/
theorem near_top (A B : FVec Ideal S4x256x4096 .f32) (b : Fin 4) (q : Fin 4096) : Nearest.Top (dist A B b q) (near A B b q) :=
  Nearest.top_sortedFrom (ord_negd A B b q)

/-- What the reference returns. -/
theorem result_apply (A B : FVec Ideal S4x256x4096 .f32) (b : Fin 4) (k : Fin 16) (q : Fin 4096) :
    transpose S4x16x4096 [0, 2, 1] ((Host.topK S4x4096x16 2 (FloatOps.cmpfTotal .gt) (negd A B) sliceFits_S4x4096x4096_S4x4096x16).2)
      transposes_S4x4096x16_S4x16x4096_0_2_1 (ix3 b k q) = BitVec.ofNat 32 (near A B b q k).val := by
  simp only [pointwise]
  exact topK_idx (negd A B) _ b q k (by omega)

end Reference

/-! ## The precondition -/

section Pre
open Cert.Pre_sixteenth_apart

theorem facts : Cert.Pre_sixteenth_apart.Facts where
  reducesTo_S4x256x4096_S4x4096_d1 := by decide
  h_S_ := by decide
  bcast_S4x4096_S4x4096x1_0_1 := by decide
  bcast_S4x4096_S4x1x4096_0_2 := by decide
  bcast_S4x4096x1_S4x4096x4096_0_1_2 := by decide
  bcast_S4x1x4096_S4x4096x4096_0_1_2 := by decide
  transposes_S4x256x4096_S4x4096x256_0_2_1 := by decide
  bcast_S_S4x4096x4096 := by decide
  transposes_S4x4096x4096_S4x4096x4096_0_2_1 := by decide
  sliceFits_S4x4096x4096_S4x4096x17 := by decide
  slices_S4x4096x17_S4x4096x1_0_0_15 := by decide
  shapeCasts_S4x4096x1_S4x4096 := by decide
  slices_S4x4096x17_S4x4096x1_0_0_16 := by decide
  dot_S4x4096x256_S4x256x4096_S4x4096x4096_2_1_1_2_0_0_wf := by decide

attribute [local instance] facts

theorem fn_eq (A B : FVec Ideal S4x256x4096 .f32) :
    fn A B = cmpf .ogt
      (shapeCast S4x4096 (extractStridedSlice S4x4096x1 ![0, 0, 15] (Host.topK S4x4096x17 2 (FloatOps.cmpfTotal .gt) (negd A B) facts.sliceFits_S4x4096x4096_S4x4096x17).1 facts.slices_S4x4096x17_S4x4096x1_0_0_15) facts.shapeCasts_S4x4096x1_S4x4096)
      (shapeCast S4x4096 (extractStridedSlice S4x4096x1 ![0, 0, 16] (Host.topK S4x4096x17 2 (FloatOps.cmpfTotal .gt) (negd A B) facts.sliceFits_S4x4096x4096_S4x4096x17).1 facts.slices_S4x4096x17_S4x4096x1_0_0_16) facts.shapeCasts_S4x4096x1_S4x4096) := rfl

theorem lt_of_ofBool {x y : EReal} (h : BitVec.ofBool (decide (x < y)) = 1#1) : x < y := by
  by_contra hn
  rw [decide_eq_false hn] at h
  exact absurd h (by decide)

/-- Under the precondition the sixteen nearest stand apart from the rest. -/
theorem near_apart {A B : FVec Ideal S4x256x4096 .f32} (h : fn A B = fun _ => 1#1) (b : Fin 4) (q : Fin 4096) :
    Nearest.Apart (dist A B b q) (near A B b q) := by
  refine Nearest.apart_sortedFrom (ord_negd A B b q) ?_
  have e := congrFun h (ix2 b q)
  rw [fn_eq] at e
  simp only [pointwise] at e
  have v : ∀ (k : Fin 17) (i : S4x4096x17.Idx), i = ix3 b q k →
      (Host.topK S4x4096x17 2 (FloatOps.cmpfTotal .gt) (negd A B) facts.sliceFits_S4x4096x4096_S4x4096x17).1 i
        = - dist A B b q (sortedFrom (ord (negd A B) b q) ⟨k.val, by omega⟩) := by
    rintro k _ rfl
    rw [← negd_apply]
    exact topK_vals (negd A B) _ b q k (by omega)
  rw [v 16 _ (by congr 1 <;> (apply Fin.ext; simp)), v 15 _ (by congr 1 <;> (apply Fin.ext; simp))] at e
  exact EReal.neg_lt_neg_iff.1 (lt_of_ofBool e)

end Pre

end Cert.Proof.KnnRef

end
-- ==== Proof.ValueIdeal.lean ====
/-
  The result of the pipelined kernel at the ideal values: the blocks of its arrays, the scores in terms of the
  arguments, and the array that the run leaves.
-/
module

public import proofs.«01_k».proof.Proof.FrameIdeal
public import proofs.«01_k».proof.Proof.ReadIdeal
public import proofs.«01_k».proof.Proof.RefIdeal

@[expose] public section

namespace Cert.Proof.KnnIdeal

open Cert.KernelIdeal Cert.KernelIdeal.Gen
open Idealize Idealize.ShloMosaic Idealize.ShloMosaic.TcCoe
open Idealize.ShloMosaic.Pipeline

/-! ## The blocks -/

theorem geo (t : Fin grid0.N) : (win0_0.index t 0 = t.val / 8 ∧ win0_0.index t 1 = 0 ∧ win0_0.index t 2 = 0)
    ∧ (win0_1.index t 0 = t.val / 8 ∧ win0_1.index t 1 = 0 ∧ win0_1.index t 2 = t.val % 8)
    ∧ (win0_2.index t 0 = t.val / 8 ∧ win0_2.index t 1 = 0 ∧ win0_2.index t 2 = t.val % 8) := by
  revert t; decide +kernel

/-- The batch of a grid point, -/
def batch (t : Fin grid0.N) : Fin 4 := ⟨t.val / 8, by have := t.isLt; have := N_0; omega⟩
/-- and the query at a place of its block. -/
def query (t : Fin grid0.N) (q : Fin 512) : Fin 4096 := ⟨t.val % 8 * 512 + q.val, by omega⟩

variable (m : (ℓ : Loc nD τ sig) → Buf (Elt Ideal) ℓ)

/-- The reference points, -/
abbrev refs (c : Dev nD) : FVec Ideal S4x256x4096 .f32 := m ((c.tc : Thread nD τ).loc main_arg0)
/-- and the queries. -/
abbrev qrys (c : Dev nD) : FVec Ideal S4x256x4096 .f32 := m ((c.tc : Thread nD τ).loc main_arg1)

theorem iblk_0 (c : Dev nD) (t : Fin cfg0.N) (e : Fin 256) (r : Fin 4096) :
    (iblk m c 0 t : Vec Ideal S1x256x4096 .f32) (ix3 0 e r) = refs m c (ix3 (batch t) e r) := by
  show refs m c ((win0_0.blk t).view.emb (ix3 0 e r : S1x256x4096.Idx)) = _
  refine congrArg (refs m c) ?_
  obtain ⟨⟨h0, h1, h2⟩, -, -⟩ := geo t
  funext a; apply Fin.ext
  match a with
  | ⟨0, _⟩ => show win0_0.index t 0 * 1 + 1 * 0 = t.val / 8; omega
  | ⟨1, _⟩ => show win0_0.index t 1 * 256 + 1 * e.val = e.val; omega
  | ⟨2, _⟩ => show win0_0.index t 2 * 4096 + 1 * r.val = r.val; omega

theorem iblk_1 (c : Dev nD) (t : Fin cfg0.N) (e : Fin 256) (q : Fin 512) :
    (iblk m c 1 t : Vec Ideal S1x256x512 .f32) (ix3 0 e q) = qrys m c (ix3 (batch t) e (query t q)) := by
  show qrys m c ((win0_1.blk t).view.emb (ix3 0 e q : S1x256x512.Idx)) = _
  refine congrArg (qrys m c) ?_
  obtain ⟨-, ⟨h0, h1, h2⟩, -⟩ := geo t
  funext a; apply Fin.ext
  match a with
  | ⟨0, _⟩ => show win0_1.index t 0 * 1 + 1 * 0 = t.val / 8; omega
  | ⟨1, _⟩ => show win0_1.index t 1 * 256 + 1 * e.val = e.val; omega
  | ⟨2, _⟩ => show win0_1.index t 2 * 512 + 1 * q.val = t.val % 8 * 512 + q.val; omega

theorem emb_2 (t : Fin cfg0.N) (k : Fin 16) (q : Fin 512) :
    ((win0_2.blk t).view.emb (ix3 0 k q : S1x16x512.Idx) : S4x16x4096.Idx) = ix3 (batch t) k (query t q) := by
  obtain ⟨-, -, ⟨h0, h1, h2⟩⟩ := geo t
  funext a; apply Fin.ext
  match a with
  | ⟨0, _⟩ => show win0_2.index t 0 * 1 + 1 * 0 = t.val / 8; omega
  | ⟨1, _⟩ => show win0_2.index t 1 * 16 + 1 * k.val = k.val; omega
  | ⟨2, _⟩ => show win0_2.index t 2 * 512 + 1 * q.val = t.val % 8 * 512 + q.val; omega

/-! ## The scores -/

theorem hz3 : (![0, 0, 0] : Fin 3 → Nat) = fun _ => 0 := funext fun a => by fin_cases a <;> rfl

theorem score_apply (x0 : Vec Ideal S1x256x4096 .f32) (x1 : Vec Ideal S1x256x512 .f32) (q : Fin 512) (r : Fin 4096) :
    score x0 x1 (ix2 q r) = (∑ e : Fin 256, x0 (ix3 0 e r) * x0 (ix3 0 e r))
      - Ideal.ofBits .f32 0x40000000#32 * ∑ e : Fin 256, x1 (ix3 0 e q) * x0 (ix3 0 e r) := by
  unfold score
  rw [View.ld_unit_zero hz3, View.ld_unit_zero hz3]
  simp only [k0_pay71, pointwise, zero_add]
  rfl

/-- The distance is the score and the query's own square. -/
theorem dist_score (c : Dev nD) (t : Fin cfg0.N) (q : Fin 512) (r : Fin 4096) :
    KnnRef.dist (refs m c) (qrys m c) (batch t) (query t q) r
      = score (iblk m c 0 t) (iblk m c 1 t) (ix2 q r)
        + ∑ e : Fin 256, qrys m c (ix3 (batch t) e (query t q)) * qrys m c (ix3 (batch t) e (query t q)) := by
  rw [score_apply]
  simp only [iblk_0, iblk_1]
  unfold KnnRef.dist
  rw [sub_eq_add_neg, sub_eq_add_neg, add_right_comm]
  rw [Finset.sum_congr rfl fun e _ => mul_comm (refs m c (ix3 (batch t) e r)) (qrys m c (ix3 (batch t) e (query t q)))]

/-! ## The result -/

theorem sq_nonneg' (x : EReal) : 0 ≤ x * x := by
  induction x using EReal.rec with
  | bot => rw [EReal.bot_mul_bot]; exact le_top
  | coe x => rw [← EReal.coe_mul]; exact EReal.coe_nonneg.2 (mul_self_nonneg x)
  | top => rw [EReal.top_mul_top]; exact le_top

/-- The listed positions, as the result array holds them. -/
noncomputable def want (c : Dev nD) : Vec Ideal S4x16x4096 .i32 := fun i =>
  BitVec.ofNat 32 (KnnRef.near (refs m c) (qrys m c) (i 0) (i 2) (i 1)).val

/-- The sixteen nearest of every query of a device stand apart from the rest. -/
def AllApart (c : Dev nD) : Prop := ∀ b q, Nearest.Apart (KnnRef.dist (refs m c) (qrys m c) b q) (KnnRef.near (refs m c) (qrys m c) b q)

theorem left_apply (c : Dev nD) (h : AllApart m c) (t : Fin cfg0.N) (k : Fin 16) (q : Fin 512) :
    left m c t (ix3 0 k q) = want m c (ix3 (batch t) k (query t q)) := by
  obtain ⟨h1, h2⟩ := Nearest.Top.of_add (s := fun j => score (iblk m c 0 t) (iblk m c 1 t) (ix2 q j))
    (Finset.sum_nonneg fun e _ => sq_nonneg' _) (dist_score m c t q)
    (KnnRef.near_top (refs m c) (qrys m c) (batch t) (query t q)) (h (batch t) (query t q))
  exact (left_post m c t).read q h1 h2 k

theorem flushed_eq (c : Dev nD) (h : AllApart m c) (t : Fin cfg0.N) :
    (dats m 0 c).flushed 2 t = (win0_2.blk t).view.read (Elt Ideal) (want m c) := by
  show (cfg0.win 2).cut (grid0.coords t) ((dats m 0 c).after 2 t) = _
  rw [after0_2]
  funext y
  have hy : y = (ix3 0 (y 1) (y 2) : S1x16x512.Idx) := by
    funext a
    match a with
    | ⟨0, _⟩ => apply Fin.ext; have : (y 0).val < 1 := (y 0).isLt; show (y 0).val = 0; omega
    | ⟨1, _⟩ => rfl
    | ⟨2, _⟩ => rfl
  rw [hy]
  exact (left_apply m c h t (y 1) (y 2)).trans (congrArg (want m c) (emb_2 t (y 1) (y 2)).symm)

theorem mem_2 (t : Fin cfg0.N) (k : Fin 16) (q : Fin 512) (i : S4x16x4096.Idx) (h : i = ix3 (batch t) k (query t q)) :
    i ∈ (win0_2.blk t).view.set := by
  have e := (emb_2 t k q).trans h.symm
  have hm : ((win0_2.blk t).view.emb (ix3 0 k q : S1x16x512.Idx) : S4x16x4096.Idx) ∈ (win0_2.blk t).view.set :=
    View.emb_mem_set _ _
  rw [e] at hm
  exact hm

theorem place (i : S4x16x4096.Idx) (t : Fin cfg0.N) (q : Fin 512) (ht : t.val = (i 0).val * 8 + (i 2).val / 512)
    (hq : q.val = (i 2).val % 512) : i = ix3 (batch t) (i 1) (query t q) := by
  have h2 : (i 2).val < 4096 := (i 2).isLt
  funext a; apply Fin.ext
  match a with
  | ⟨0, _⟩ => show (i 0).val = t.val / 8; omega
  | ⟨1, _⟩ => rfl
  | ⟨2, _⟩ => show (i 2).val = t.val % 8 * 512 + q.val; omega

/-- Every index of the result array is in some point's block. -/
theorem cover (i : S4x16x4096.Idx) : ∃ t : Fin cfg0.N, (cfg0.win 2).flush t = true ∧ i ∈ ((cfg0.win 2).blk t).view.set := by
  have h0 : (i 0).val < 4 := (i 0).isLt
  have h2 : (i 2).val < 4096 := (i 2).isLt
  have hN : cfg0.N = 32 := N_0
  obtain ⟨t, ht⟩ : ∃ t : Fin cfg0.N, t.val = (i 0).val * 8 + (i 2).val / 512 := ⟨⟨_, by omega⟩, rfl⟩
  obtain ⟨q, hq⟩ : ∃ q : Fin 512, q.val = (i 2).val % 512 := ⟨⟨_, by omega⟩, rfl⟩
  exact ⟨t, flush0_2 t, mem_2 t (i 1) q i (place i t q ht hq)⟩

/-- So the result array ends holding the listed positions, -/
theorem final (c : Dev nD) (h : AllApart m c) : (dats m 0 c).arrAt 2 cfg0.N = want m c :=
  (dats m 0 c).arrAt_eq_of_cover 2 (want m c) (fun t _ => flushed_eq m c h t) cover

/-- and the run, read: the result array at the listed positions, the arguments unchanged. -/
theorem run (ρ : Dev nD → PrngReg) (h : ∀ c, AllApart m c) :
    θ_run defs (onTc (τ := τ) (main (F := Ideal))) ⟨m, fun _ => 0, ρ⟩ fun r => ∀ c : Dev nD,
      r.2.mem ((c.tc : Thread nD τ).loc main_v0) = want m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c => ⟨((hr c).1 2).trans (final m c (h c)),
      ((hr c).1 0).trans ((dats m 0 c).arrAt_in 0 rfl _), ((hr c).1 1).trans ((dats m 0 c).arrAt_in 1 rfl _)⟩)
    (run_main m ρ)

end Cert.Proof.KnnIdeal

end
-- ==== Proof.lean ====
/-
  The claims about the nearest-neighbour kernel, proved: the three runs keep their arguments and end with every counter at
  zero, and the ideal kernel returns what the reference returns.
-/
module

public import proofs.«01_k».proof.Defs
public import proofs.«01_k».proof.Proof.FrameBits
public import proofs.«01_k».proof.Proof.FrameIdeal
public import proofs.«01_k».proof.Proof.ValueIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel as printed runs, leaves its arguments and ends with every counter at zero. -/
theorem frame_k : Cert.quiescent_Kernel := fun m ρ _ => KnnBits.frame_all m ρ

/-- The ideal kernel likewise. -/
theorem frame_i : Cert.quiescent_KernelIdeal := fun m ρ _ => KnnIdeal.frame_all m ρ

/-- The reference likewise: it declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Value
attribute [local instance] KnnRef.facts

/-- The reference's result is the array of listed positions. -/
theorem result_eq (A B : FVec Ideal Cert.ReferenceIdeal.S4x256x4096 .f32) :
    transpose Cert.ReferenceIdeal.S4x16x4096 [0, 2, 1]
        ((Host.topK Cert.ReferenceIdeal.S4x4096x16 2 (FloatOps.cmpfTotal .gt) (KnnRef.negd A B) Cert.ReferenceIdeal.Gen.sliceFits_S4x4096x4096_S4x4096x16).2)
        Cert.ReferenceIdeal.Gen.transposes_S4x4096x16_S4x16x4096_0_2_1
      = fun i => BitVec.ofNat 32 (KnnRef.near A B (i 0) (i 2) (i 1)).val := by
  funext i
  have hi : i = ix3 (i 0) (i 1) (i 2) := (ix3_eta i).symm
  rw [hi]
  exact KnnRef.result_apply A B (i 0) (i 1) (i 2)

/-- The ideal kernel returns what the reference returns. -/
theorem algebraic : Cert.algebraic_KernelIdeal_ReferenceIdeal_pre_sixteenth_apart := fun m g m' g' hpre hargs => by
  have hA : ∀ c, KnnIdeal.AllApart m c := fun c b q => KnnRef.near_apart (hpre c) b q
  refine ⟨fun c => KnnIdeal.want m c, KnnIdeal.run m g hA, ?_⟩
  refine (θ_run Cert.ReferenceIdeal.defs _ _).mono (fun r h c => ⟨?_, (h c).2⟩) (Cert.ReferenceIdeal.Value.run (F := Ideal) m' g')
  refine (h c).1.trans ?_
  rw [(hargs c).1, (hargs c).2]
  exact result_eq _ _

end Value

theorem claim : Cert.Claim :=
  ⟨Cert.Kernel.Gen.facts, Cert.KernelIdeal.Gen.facts, Cert.ReferenceIdeal.Gen.facts, KnnRef.facts,
    frame_k, frame_i, fun m ρ _ => frame_i m ρ trivial, frame_r, fun m ρ _ => frame_r m ρ trivial, trivial, algebraic⟩

end Cert.Proof

end
